-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![32, 256, 768]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![4096, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = Layout.block ⟨3, ![2, 256, 768]⟩ ⟨3, ![32, 256, 768]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x256 : Shape := ⟨2, ![768, 256]⟩
abbrev S256x768 : Shape := ⟨2, ![256, 768]⟩
abbrev S256x256 : Shape := ⟨2, ![256, 256]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S1x256x1x64 : Shape := ⟨4, ![1, 256, 1, 64]⟩
abbrev S2x256x4x64 : Shape := ⟨4, ![2, 256, 4, 64]⟩
abbrev S512x256 : Shape := ⟨2, ![512, 256]⟩
abbrev S3072x256 : Shape := ⟨2, ![3072, 256]⟩
abbrev S512x768 : Shape := ⟨2, ![512, 768]⟩
abbrev S8x3072x256 : Shape := ⟨3, ![8, 3072, 256]⟩
abbrev S7x3072x256 : Shape := ⟨3, ![7, 3072, 256]⟩
abbrev S8x2 : Shape := ⟨2, ![8, 2]⟩
abbrev S7x2 : Shape := ⟨2, ![7, 2]⟩
abbrev S1x1 : Shape := ⟨2, ![1, 1]⟩
abbrev S1x1536x256 : Shape := ⟨3, ![1, 1536, 256]⟩
abbrev S1536x256 : Shape := ⟨2, ![1536, 256]⟩
abbrev S1x3072x256 : Shape := ⟨3, ![1, 3072, 256]⟩

abbrev nBuf : Space → Nat
  | .hbm => 49
  | .vmem => 9
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S256x256, .bf16⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S256, .i32⟩
  | .hbm, ⟨24, _⟩ => ⟨S256x1, .i32⟩
  | .hbm, ⟨25, _⟩ => ⟨S1x32, .f32⟩
  | .hbm, ⟨26, _⟩ => ⟨S256x1, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32, .f32⟩
  | .hbm, ⟨31, _⟩ => ⟨S256x32x2, .f32⟩
  | .hbm, ⟨32, _⟩ => ⟨S256x64, .f32⟩
  | .hbm, ⟨33, _⟩ => ⟨S256x32, .f32⟩
  | .hbm, ⟨34, _⟩ => ⟨S256x32x2, .f32⟩
  | .hbm, ⟨35, _⟩ => ⟨S256x64, .f32⟩
  | .hbm, ⟨36, _⟩ => ⟨S1x256x1x64, .f32⟩
  | .hbm, ⟨37, _⟩ => ⟨S2x256x4x64, .f32⟩
  | .hbm, ⟨38, _⟩ => ⟨S512x256, .f32⟩
  | .hbm, ⟨39, _⟩ => ⟨S1x256x1x64, .f32⟩
  | .hbm, ⟨40, _⟩ => ⟨S2x256x4x64, .f32⟩
  | .hbm, ⟨41, _⟩ => ⟨S512x256, .f32⟩
  | .hbm, ⟨42, _⟩ => ⟨S768x256, .f32⟩
  | .hbm, ⟨43, _⟩ => ⟨S3072x256, .f32⟩
  | .hbm, ⟨44, _⟩ => ⟨S3072x256, .bf16⟩
  | .hbm, ⟨45, _⟩ => ⟨S512x768, .f32⟩
  | .hbm, ⟨46, _⟩ => ⟨S512x768, .bf16⟩
  | .hbm, ⟨47, _⟩ => ⟨S512x768, .f32⟩
  | .hbm, ⟨48, _⟩ => ⟨S2x256x768, .f32⟩
  | .local _ .vmem, ⟨0, _⟩ => ⟨S512x768, .bf16⟩
  | .local _ .vmem, ⟨1, _⟩ => ⟨S3072x256, .bf16⟩
  | .local _ .vmem, ⟨2, _⟩ => ⟨S256x256, .bf16⟩
  | .local _ .vmem, ⟨3, _⟩ => ⟨S512x256, .f32⟩
  | .local _ .vmem, ⟨4, _⟩ => ⟨S512x256, .f32⟩
  | .local _ .vmem, ⟨5, _⟩ => ⟨S512x768, .f32⟩
  | .local _ .vmem, ⟨6, _⟩ => ⟨S8x3072x256, .bf16⟩
  | .local _ .vmem, ⟨7, _⟩ => ⟨S7x3072x256, .bf16⟩
  | .local _ .vmem, ⟨8, _⟩ => ⟨S512x256, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_22 : BitVec 32 := 1#32
  let v20 : BitVec 32 := Scalar.muli v4 c1_i32_22
  let v21 : BitVec 32 := Scalar.addi c0_i32_23 v20
  v21.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_33 : BitVec 32 := 1#32
  let v29 : BitVec 32 := Scalar.muli v4 c1_i32_33
  let v30 : BitVec 32 := Scalar.addi c0_i32_34 v29
  v30.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_43 : BitVec 32 := 1#32
  let v38 : BitVec 32 := Scalar.muli v7 c1_i32_43
  let v39 : BitVec 32 := Scalar.addi c0_i32_44 v38
  v39.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_54 : BitVec 32 := 1#32
  let v47 : BitVec 32 := Scalar.muli v7 c1_i32_54
  let v48 : BitVec 32 := Scalar.addi c0_i32_55 v47
  v48.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_140 : BitVec 32 := 1#32
  let v256 : BitVec 32 := Scalar.muli v4 c1_i32_140
  let v257 : BitVec 32 := Scalar.addi c0_i32_141 v256
  v257.toNat
def k0_dev8 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_163 : BitVec 32 := 1#32
  let v273 : BitVec 32 := Scalar.muli v4 c1_i32_163
  let v274 : BitVec 32 := Scalar.addi c0_i32_164 v273
  v274.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_186 : BitVec 32 := 1#32
  let v290 : BitVec 32 := Scalar.muli v7 c1_i32_186
  let v291 : BitVec 32 := Scalar.addi c0_i32_187 v290
  v291.toNat
def k0_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_209 : BitVec 32 := 1#32
  let v307 : BitVec 32 := Scalar.muli v7 c1_i32_209
  let v308 : BitVec 32 := Scalar.addi c0_i32_210 v307
  v308.toNat
def k0_dev11 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_375 : BitVec 32 := 1#32
  let v717 : BitVec 32 := Scalar.muli v4 c1_i32_375
  let v718 : BitVec 32 := Scalar.addi c0_i32_376 v717
  v718.toNat
def k0_dev12 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_399 : BitVec 32 := 1#32
  let v735 : BitVec 32 := Scalar.muli v4 c1_i32_399
  let v736 : BitVec 32 := Scalar.addi c0_i32_400 v735
  v736.toNat
def k0_dev13 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_423 : BitVec 32 := 1#32
  let v753 : BitVec 32 := Scalar.muli v7 c1_i32_423
  let v754 : BitVec 32 := Scalar.addi c0_i32_424 v753
  v754.toNat
def k0_dev14 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_447 : BitVec 32 := 1#32
  let v771 : BitVec 32 := Scalar.muli v7 c1_i32_447
  let v772 : BitVec 32 := Scalar.addi c0_i32_448 v771
  v772.toNat
def k0_dev15 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_611 : BitVec 32 := 1#32
  let v1181 : BitVec 32 := Scalar.muli v4 c1_i32_611
  let v1182 : BitVec 32 := Scalar.addi c0_i32_612 v1181
  v1182.toNat
def k0_dev16 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_635 : BitVec 32 := 1#32
  let v1199 : BitVec 32 := Scalar.muli v4 c1_i32_635
  let v1200 : BitVec 32 := Scalar.addi c0_i32_636 v1199
  v1200.toNat
def k0_dev17 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_659 : BitVec 32 := 1#32
  let v1217 : BitVec 32 := Scalar.muli v7 c1_i32_659
  let v1218 : BitVec 32 := Scalar.addi c0_i32_660 v1217
  v1218.toNat
def k0_dev18 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_683 : BitVec 32 := 1#32
  let v1235 : BitVec 32 := Scalar.muli v7 c1_i32_683
  let v1236 : BitVec 32 := Scalar.addi c0_i32_684 v1235
  v1236.toNat
def k0_dev19 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_847 : BitVec 32 := 1#32
  let v1645 : BitVec 32 := Scalar.muli v4 c1_i32_847
  let v1646 : BitVec 32 := Scalar.addi c0_i32_848 v1645
  v1646.toNat
def k0_dev20 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_871 : BitVec 32 := 1#32
  let v1663 : BitVec 32 := Scalar.muli v4 c1_i32_871
  let v1664 : BitVec 32 := Scalar.addi c0_i32_872 v1663
  v1664.toNat
def k0_dev21 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_895 : BitVec 32 := 1#32
  let v1681 : BitVec 32 := Scalar.muli v7 c1_i32_895
  let v1682 : BitVec 32 := Scalar.addi c0_i32_896 v1681
  v1682.toNat
def k0_dev22 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_919 : BitVec 32 := 1#32
  let v1699 : BitVec 32 := Scalar.muli v7 c1_i32_919
  let v1700 : BitVec 32 := Scalar.addi c0_i32_920 v1699
  v1700.toNat
def k0_dev23 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1083 : BitVec 32 := 1#32
  let v2109 : BitVec 32 := Scalar.muli v4 c1_i32_1083
  let v2110 : BitVec 32 := Scalar.addi c0_i32_1084 v2109
  v2110.toNat
def k0_dev24 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1107 : BitVec 32 := 1#32
  let v2127 : BitVec 32 := Scalar.muli v4 c1_i32_1107
  let v2128 : BitVec 32 := Scalar.addi c0_i32_1108 v2127
  v2128.toNat
def k0_dev25 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1131 : BitVec 32 := 1#32
  let v2145 : BitVec 32 := Scalar.muli v7 c1_i32_1131
  let v2146 : BitVec 32 := Scalar.addi c0_i32_1132 v2145
  v2146.toNat
def k0_dev26 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1155 : BitVec 32 := 1#32
  let v2163 : BitVec 32 := Scalar.muli v7 c1_i32_1155
  let v2164 : BitVec 32 := Scalar.addi c0_i32_1156 v2163
  v2164.toNat
def k0_dev27 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1319 : BitVec 32 := 1#32
  let v2573 : BitVec 32 := Scalar.muli v4 c1_i32_1319
  let v2574 : BitVec 32 := Scalar.addi c0_i32_1320 v2573
  v2574.toNat
def k0_dev28 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1343 : BitVec 32 := 1#32
  let v2591 : BitVec 32 := Scalar.muli v4 c1_i32_1343
  let v2592 : BitVec 32 := Scalar.addi c0_i32_1344 v2591
  v2592.toNat
def k0_dev29 (d0 : Dev nD) : Nat :=
  let c0_i32_1368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1367 : BitVec 32 := 1#32
  let v2609 : BitVec 32 := Scalar.muli v7 c1_i32_1367
  let v2610 : BitVec 32 := Scalar.addi c0_i32_1368 v2609
  v2610.toNat
def k0_dev30 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1391 : BitVec 32 := 1#32
  let v2627 : BitVec 32 := Scalar.muli v7 c1_i32_1391
  let v2628 : BitVec 32 := Scalar.addi c0_i32_1392 v2627
  v2628.toNat
def k0_dev31 (d0 : Dev nD) : Nat :=
  let c0_i32_1556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1555 : BitVec 32 := 1#32
  let v3037 : BitVec 32 := Scalar.muli v4 c1_i32_1555
  let v3038 : BitVec 32 := Scalar.addi c0_i32_1556 v3037
  v3038.toNat
def k0_dev32 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1579 : BitVec 32 := 1#32
  let v3055 : BitVec 32 := Scalar.muli v4 c1_i32_1579
  let v3056 : BitVec 32 := Scalar.addi c0_i32_1580 v3055
  v3056.toNat
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x256x768 : Shape := ⟨3, ![32, 256, 768]⟩
abbrev S768x4096 : Shape := ⟨2, ![768, 4096]⟩
abbrev S4096x768 : Shape := ⟨2, ![4096, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S32x256x4096 : Shape := ⟨3, ![32, 256, 4096]⟩
abbrev S32x256x64x64 : Shape := ⟨4, ![32, 256, 64, 64]⟩
abbrev S32x256x64x32x2 : Shape := ⟨5, ![32, 256, 64, 32, 2]⟩
abbrev S32x256x64x32x1 : Shape := ⟨5, ![32, 256, 64, 32, 1]⟩
abbrev S32x256x64x32 : Shape := ⟨4, ![32, 256, 64, 32]⟩
abbrev S1x256x1x64 : Shape := ⟨4, ![1, 256, 1, 64]⟩
abbrev S32x64x256x256 : Shape := ⟨4, ![32, 64, 256, 256]⟩
abbrev S32x64x256 : Shape := ⟨3, ![32, 64, 256]⟩
abbrev S32x64x256x1 : Shape := ⟨4, ![32, 64, 256, 1]⟩
abbrev S32x64x64x256 : Shape := ⟨4, ![32, 64, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S32x256x768, .f32⟩
  | .hbm, ⟨1, _⟩ => ⟨S768x4096, .f32⟩
  | .hbm, ⟨2, _⟩ => ⟨S768x4096, .f32⟩
  | .hbm, ⟨3, _⟩ => ⟨S768x4096, .f32⟩
  | .hbm, ⟨4, _⟩ => ⟨S4096x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S256, .i32⟩
  | .hbm, ⟨23, _⟩ => ⟨S256x1, .i32⟩
  | .hbm, ⟨24, _⟩ => ⟨S1x32, .f32⟩
  | .hbm, ⟨25, _⟩ => ⟨S256x1, .f32⟩
  | .hbm, ⟨26, _⟩ => ⟨S256x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32x2, .f32⟩
  | .hbm, ⟨31, _⟩ => ⟨S256x64, .f32⟩
  | .hbm, ⟨32, _⟩ => ⟨S256x32, .f32⟩
  | .hbm, ⟨33, _⟩ => ⟨S256x32x2, .f32⟩
  | .hbm, ⟨34, _⟩ => ⟨S256x64, .f32⟩
  | .hbm, ⟨35, _⟩ => ⟨S32x256x4096, .f32⟩
  | .hbm, ⟨36, _⟩ => ⟨S32x256x64x64, .f32⟩
  | .hbm, ⟨37, _⟩ => ⟨S32x256x64x32x2, .f32⟩
  | .hbm, ⟨38, _⟩ => ⟨S32x256x64x32x1, .f32⟩
  | .hbm, ⟨39, _⟩ => ⟨S32x256x64x32, .f32⟩
  | .hbm, ⟨40, _⟩ => ⟨S32x256x64x32, .f32⟩
  | .hbm, ⟨41, _⟩ => ⟨S32x256x64x32x1, .f32⟩
  | .hbm, ⟨42, _⟩ => ⟨S32x256x64x32, .f32⟩
  | .hbm, ⟨43, _⟩ => ⟨S32x256x64x32x1, .f32⟩
  | .hbm, ⟨44, _⟩ => ⟨S32x256x64x32x1, .f32⟩
  | .hbm, ⟨45, _⟩ => ⟨S32x256x64x32x2, .f32⟩
  | .hbm, ⟨46, _⟩ => ⟨S32x256x64x64, .f32⟩
  | .hbm, ⟨47, _⟩ => ⟨S1x256x1x64, .f32⟩
  | .hbm, ⟨48, _⟩ => ⟨S32x256x64x64, .f32⟩
  | .hbm, ⟨49, _⟩ => ⟨S32x256x64x64, .f32⟩
  | .hbm, ⟨50, _⟩ => ⟨S1x256x1x64, .f32⟩
  | .hbm, ⟨51, _⟩ => ⟨S32x256x64x64, .f32⟩
  | .hbm, ⟨52, _⟩ => ⟨S32x256x64x64, .f32⟩
  | .hbm, ⟨53, _⟩ => ⟨S32x256x64x64, .f32⟩
  | .hbm, ⟨54, _⟩ => ⟨S32x256x4096, .f32⟩
  | .hbm, ⟨55, _⟩ => ⟨S32x256x64x64, .f32⟩
  | .hbm, ⟨56, _⟩ => ⟨S32x256x64x32x2, .f32⟩
  | .hbm, ⟨57, _⟩ => ⟨S32x256x64x32x1, .f32⟩
  | .hbm, ⟨58, _⟩ => ⟨S32x256x64x32, .f32⟩
  | .hbm, ⟨59, _⟩ => ⟨S32x256x64x32, .f32⟩
  | .hbm, ⟨60, _⟩ => ⟨S32x256x64x32x1, .f32⟩
  | .hbm, ⟨61, _⟩ => ⟨S32x256x64x32, .f32⟩
  | .hbm, ⟨62, _⟩ => ⟨S32x256x64x32x1, .f32⟩
  | .hbm, ⟨63, _⟩ => ⟨S32x256x64x32x1, .f32⟩
  | .hbm, ⟨64, _⟩ => ⟨S32x256x64x32x2, .f32⟩
  | .hbm, ⟨65, _⟩ => ⟨S32x256x64x64, .f32⟩
  | .hbm, ⟨66, _⟩ => ⟨S1x256x1x64, .f32⟩
  | .hbm, ⟨67, _⟩ => ⟨S32x256x64x64, .f32⟩
  | .hbm, ⟨68, _⟩ => ⟨S32x256x64x64, .f32⟩
  | .hbm, ⟨69, _⟩ => ⟨S1x256x1x64, .f32⟩
  | .hbm, ⟨70, _⟩ => ⟨S32x256x64x64, .f32⟩
  | .hbm, ⟨71, _⟩ => ⟨S32x256x64x64, .f32⟩
  | .hbm, ⟨72, _⟩ => ⟨S32x256x64x64, .f32⟩
  | .hbm, ⟨73, _⟩ => ⟨S32x256x4096, .f32⟩
  | .hbm, ⟨74, _⟩ => ⟨S32x256x64x64, .f32⟩
  | .hbm, ⟨75, _⟩ => ⟨S32x64x256x256, .f32⟩
  | .hbm, ⟨76, _⟩ => ⟨S_, .f32⟩
  | .hbm, ⟨77, _⟩ => ⟨S32x64x256x256, .f32⟩
  | .hbm, ⟨78, _⟩ => ⟨S32x64x256x256, .f32⟩
  | .hbm, ⟨79, _⟩ => ⟨S_, .f32⟩
  | .hbm, ⟨80, _⟩ => ⟨S32x64x256, .f32⟩
  | .hbm, ⟨81, _⟩ => ⟨S32x64x256x1, .f32⟩
  | .hbm, ⟨82, _⟩ => ⟨S32x64x256x256, .f32⟩
  | .hbm, ⟨83, _⟩ => ⟨S32x64x256x256, .f32⟩
  | .hbm, ⟨84, _⟩ => ⟨S32x64x256x256, .f32⟩
  | .hbm, ⟨85, _⟩ => ⟨S_, .f32⟩
  | .hbm, ⟨86, _⟩ => ⟨S32x64x256, .f32⟩
  | .hbm, ⟨87, _⟩ => ⟨S32x64x256x1, .f32⟩
  | .hbm, ⟨88, _⟩ => ⟨S32x64x256x256, .f32⟩
  | .hbm, ⟨89, _⟩ => ⟨S32x64x256x256, .f32⟩
  | .hbm, ⟨90, _⟩ => ⟨S32x64x64x256, .f32⟩
  | .hbm, ⟨91, _⟩ => ⟨S32x256x64x64, .f32⟩
  | .hbm, ⟨92, _⟩ => ⟨S32x256x4096, .f32⟩
  | .hbm, ⟨93, _⟩ => ⟨S32x256x768, .f32⟩
  | _, _ => ⟨S32x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Body.lean ====
/-
  The kernel body, written once: what one received weight chunk contributes to the result (`rot`, `proj`, `headOut`,
  `outDot`), and the body as the sequence of its signals, copies, waits and sixteen equal compute stages. `body_eq`
  says that the printed body is this program.
-/
module

public import proofs.«01_k».proof.Proof.Gen.KernelIdeal.Skeleton

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-! ## What a stage computes -/

/-- A projection of the activations by a weight block, in f32. -/
def dotW (x : FVec F S512x768 .bf16) (w : FVec F S768x256 .bf16) : FVec F S512x256 .f32 :=
  matmul dot_S512x768_S768x256_S512x256_1_0_0_1_n_n none x w (constant S512x256 .f32 0x00000000#32)

/-- The rotary rotation of a projection, rounded to bf16. -/
def rot (cs sn : FVec F S512x256 .f32) (p : FVec F S256x256 .bf16) (y : FVec F S512x256 .f32) : FVec F S512x256 .bf16 :=
  truncf .bf16 (addf (mulf y cs) (mulf (matmul dot_S512x256_S256x256_S512x256_1_0_0_1_n_n none (truncf .bf16 y bitsLt_bf16_f32) p (constant S512x256 .f32 0x00000000#32)) sn)) bitsLt_bf16_f32

/-- One batch and one head of softmax attention. -/
def headOut (q k v : FVec F S256x64 .bf16) : FVec F S256x64 .bf16 :=
  have sc : FVec F S256x256 .f32 := mulf (matmul dot_S256x64_S256x64_S256x256_1_1_0_0_n_n none q k (constant S256x256 .f32 0x00000000#32)) (broadcast S256x256 (Scalar.ofBits .f32 0x3E000000#32))
  have e : FVec F S256x256 .f32 := exp (subf sc (broadcastTo S256x256 (shapeCast S256x1 (multiReduction .maximumf [1] S256 sc 0xFF800000#32 reduces_S256x256_S256 (.inl rfl) rfl) shapeCasts_S256_S256x1) broadcasts_S256x1_S256x256))
  have p : FVec F S256x256 .f32 := divf e (broadcastTo S256x256 (shapeCast S256x1 (multiReduction .add [1] S256 e 0x00000000#32 reduces_S256x256_S256 (.inl rfl) rfl) shapeCasts_S256_S256x1) broadcasts_S256x1_S256x256)
  shapeCast S256x64 (truncf .bf16 (matmul dot_S256x256_S256x64_S256x64_1_0_0_1_n_n none (truncf .bf16 p bitsLt_bf16_f32) v (constant S256x64 .f32 0x00000000#32)) bitsLt_bf16_f32) shapeCasts_S256x64_S256x64

/-- One batch and head cut out of the projections at an offset. -/
abbrev headAt (o : Fin 2 → Nat) (h : S512x256.Slices o S256x64) (q k v : FVec F S512x256 .bf16) : FVec F S256x64 .bf16 :=
  headOut (extractStridedSlice S256x64 o q h) (extractStridedSlice S256x64 o k h) (extractStridedSlice S256x64 o v h)

/-- The stacked context against the output weights. -/
def outDot (wo : FVec F S768x256 .bf16) (ctx : FVec F S512x256 .bf16) : FVec F S512x768 .f32 :=
  matmul dot_S512x256_S768x256_S512x768_1_1_0_0_n_n none ctx wo (constant S512x768 .f32 0x00000000#32)

abbrev qOf (x : FVec F S512x768 .bf16) (cs sn : FVec F S512x256 .f32) (p : FVec F S256x256 .bf16) (w : FVec F S3072x256 .bf16) : FVec F S512x256 .bf16 :=
  rot cs sn p (dotW x (extractStridedSlice S768x256 ![0, 0] w slices_S3072x256_o0_0_S768x256))
abbrev kOf (x : FVec F S512x768 .bf16) (cs sn : FVec F S512x256 .f32) (p : FVec F S256x256 .bf16) (w : FVec F S3072x256 .bf16) : FVec F S512x256 .bf16 :=
  rot cs sn p (dotW x (extractStridedSlice S768x256 ![768, 0] w slices_S3072x256_o768_0_S768x256))
abbrev vOf (x : FVec F S512x768 .bf16) (w : FVec F S3072x256 .bf16) : FVec F S512x256 .bf16 :=
  truncf .bf16 (dotW x (extractStridedSlice S768x256 ![1536, 0] w slices_S3072x256_o1536_0_S768x256)) bitsLt_bf16_f32
abbrev woOf (w : FVec F S3072x256 .bf16) : FVec F S768x256 .bf16 := extractStridedSlice S768x256 ![2304, 0] w slices_S3072x256_o2304_0_S768x256

/-! ## The body's pieces -/

/-- A piece of the body returning nothing. -/
abbrev Pr (F : FTy → Type) : Type 1 := Prog (TpuEff nD τ sig (Elt F) Λ₀ .tc) PUnit

/-- The row a half of a chunk starts at. -/
abbrev off (s : Bool) : Nat := cond s 1536 0
abbrev bit (s : Bool) : Nat := cond s 1 0

theorem inbR (j : Fin 8) (s : Bool) : ∀ a, (![j.val, off s, 0] : Fin 3 → Nat) a + S1x1536x256.size a ≤ S8x3072x256.size a := by revert j s; decide
theorem inbL (j : Fin 7) (s : Bool) : ∀ a, (![j.val, off s, 0] : Fin 3 → Nat) a + S1x1536x256.size a ≤ S7x3072x256.size a := by revert j s; decide
theorem inbW (s : Bool) : ∀ a, (![off s, 0] : Fin 2 → Nat) a + S1536x256.size a ≤ S3072x256.size a := by revert s; decide
theorem inbSR (j : Fin 8) (s : Bool) : ∀ a, (![j.val, bit s] : Fin 2 → Nat) a + S1x1.size a ≤ S8x2.size a := by revert j s; decide
theorem inbSL (j : Fin 7) (s : Bool) : ∀ a, (![j.val, bit s] : Fin 2 → Nat) a + S1x1.size a ≤ S7x2.size a := by revert j s; decide
theorem inbCR (j : Fin 8) : ∀ a, (![j.val, 0, 0] : Fin 3 → Nat) a + S1x3072x256.size a ≤ S8x3072x256.size a := by revert j; decide
theorem inbCL (j : Fin 7) : ∀ a, (![j.val, 0, 0] : Fin 3 → Nat) a + S1x3072x256.size a ≤ S7x3072x256.size a := by revert j; decide
theorem wordsR (j : Fin 8) (s : Bool) : (Rect.unit (s := S8x3072x256) ![j.val, off s, 0] S1x1536x256.size (inbR j s)).WholeWords (EltTy.packing .bf16) := by revert j s; decide
theorem wordsL (j : Fin 7) (s : Bool) : (Rect.unit (s := S7x3072x256) ![j.val, off s, 0] S1x1536x256.size (inbL j s)).WholeWords (EltTy.packing .bf16) := by revert j s; decide
theorem wordsW (s : Bool) : (Rect.unit (s := S3072x256) ![off s, 0] S1536x256.size (inbW s)).WholeWords (EltTy.packing .bf16) := by revert s; decide

/-- Half `s` of slot `j` of the buffer the right-going chunks land in; of the left-going ones; of the own chunk. -/
abbrev halfR (a : Memref sig .tc .vmem S8x3072x256 .bf16) (j : Fin 8) (s : Bool) : Memref sig .tc .vmem S1536x256 .bf16 :=
  (a.slice (Rect.unit (s := S8x3072x256) ![j.val, off s, 0] S1x1536x256.size (inbR j s)) (fun _ => rfl)).squeeze S1536x256 squeezes_S1x1536x256_S1536x256
abbrev halfL (a : Memref sig .tc .vmem S7x3072x256 .bf16) (j : Fin 7) (s : Bool) : Memref sig .tc .vmem S1536x256 .bf16 :=
  (a.slice (Rect.unit (s := S7x3072x256) ![j.val, off s, 0] S1x1536x256.size (inbL j s)) (fun _ => rfl)).squeeze S1536x256 squeezes_S1x1536x256_S1536x256
abbrev halfW (a : Memref sig .tc .vmem S3072x256 .bf16) (s : Bool) : Memref sig .tc .vmem S1536x256 .bf16 :=
  a.slice (Rect.unit (s := S3072x256) ![off s, 0] S1536x256.size (inbW s)) (fun _ => rfl)
abbrev semR (a : DmaSems sig S8x2) (j : Fin 8) (s : Bool) : DmaSem sig :=
  ((a.slice (Rect.unit (s := S8x2) ![j.val, bit s] S1x1.size (inbSR j s))).squeeze S_ squeezes_S1x1_S_).sem
abbrev semL (a : DmaSems sig S7x2) (j : Fin 7) (s : Bool) : DmaSem sig :=
  ((a.slice (Rect.unit (s := S7x2) ![j.val, bit s] S1x1.size (inbSL j s))).squeeze S_ squeezes_S1x1_S_).sem

/-- Start a copy into device `n`. -/
def startTo (src dst : Memref sig .tc .vmem S1536x256 .bf16) (ss rs : DmaSem sig) (n : Dev nD) (h₁ : src.view.WordExact) (h₂ : dst.view.WordExact) : Pr F :=
  Prog.lift (.enqueueDma src (.remote (Dev.tc n) dst (.dma ss)) (.dma rs) h₁ h₂ ⟨⟨rfl, Or.inl rfl⟩, trivial⟩)
/-- Wait for a copy's bytes on a semaphore. -/
def waitFor (sm : DmaSem sig) (src dst : Memref sig .tc .vmem S1536x256 .bf16) (h₁ : src.view.WordExact) (h₂ : dst.view.WordExact) : Pr F :=
  Prog.lift (.waitDma2 sm src dst h₁ h₂)

section Pieces

variable (arg1 : Memref sig .tc .vmem S3072x256 .bf16) (harg1 : arg1.IsWhole) (arg5 : Memref sig .tc .vmem S512x768 .f32)
  (arg6 : Memref sig .tc .vmem S8x3072x256 .bf16) (harg6 : arg6.IsWhole) (arg7 : Memref sig .tc .vmem S7x3072x256 .bf16) (harg7 : arg7.IsWhole)
  (arg8 : Memref sig .tc .vmem S512x256 .bf16) (harg8 : arg8.IsWhole)
  (arg9 arg10 : DmaSems sig S8x2) (arg11 arg12 : DmaSems sig S7x2)
  (x : FVec F S512x768 .bf16) (cs sn : FVec F S512x256 .f32) (p : FVec F S256x256 .bf16)

include harg1 in
theorem exactW (s : Bool) : (halfW arg1 s).view.WordExact := harg1.wordExact_slice rfl _ (wordsW s)
include harg6 in
theorem exactR (j : Fin 8) (s : Bool) : (halfR arg6 j s).view.WordExact := (harg6.wordExact_slice rfl _ (wordsR j s)).reshape _ _
include harg7 in
theorem exactL (j : Fin 7) (s : Bool) : (halfL arg7 j s).view.WordExact := (harg7.wordExact_slice rfl _ (wordsL j s)).reshape _ _

/-- One head's context into its place in the context buffer (the read before the write is the printed text's). -/
def putHead (o : Fin 2 → Nat) (hi : ∀ a, o a + S256x64.size a ≤ S512x256.size a) (hs : S512x256.Slices o S256x64)
    (hp : (Rect.unit (s := S512x256) o S256x64.size hi).PackedRows (EltTy.packing .bf16)) (q k v : FVec F S512x256 .bf16) : Pr F := do
  let _v : Vec F S256x64 .bf16 ← Prog.lift (.load arg8 (Rect.unit (s := S512x256) o S256x64.size hi).toLoadRect (View.loadsAt_vmem h_S256x64))
  Prog.lift (.store arg8 (Rect.unit (s := S512x256) o S256x64.size hi) (headAt o hs q k v) Finset.univ (View.stores_vmem h_S256x64 (harg8.storeExact_slice rfl _ hp) (fun _ => rfl)) (.inl rfl))

/-- The eight heads of a stage, then the whole context read back. -/
def heads (q k v : FVec F S512x256 .bf16) : Prog (TpuEff nD τ sig (Elt F) Λ₀ .tc) (Vec F S512x256 .bf16) := do
  putHead arg8 harg8 ![0, 0] inb_S512x256_S256x64_0_0 slices_S512x256_o0_0_S256x64 packedbf16_S512x256_S256x64_0_0 q k v
  putHead arg8 harg8 ![0, 64] inb_S512x256_S256x64_0_64 slices_S512x256_o0_64_S256x64 packedbf16_S512x256_S256x64_0_64 q k v
  putHead arg8 harg8 ![0, 128] inb_S512x256_S256x64_0_128 slices_S512x256_o0_128_S256x64 packedbf16_S512x256_S256x64_0_128 q k v
  putHead arg8 harg8 ![0, 192] inb_S512x256_S256x64_0_192 slices_S512x256_o0_192_S256x64 packedbf16_S512x256_S256x64_0_192 q k v
  putHead arg8 harg8 ![256, 0] inb_S512x256_S256x64_256_0 slices_S512x256_o256_0_S256x64 packedbf16_S512x256_S256x64_256_0 q k v
  putHead arg8 harg8 ![256, 64] inb_S512x256_S256x64_256_64 slices_S512x256_o256_64_S256x64 packedbf16_S512x256_S256x64_256_64 q k v
  putHead arg8 harg8 ![256, 128] inb_S512x256_S256x64_256_128 slices_S512x256_o256_128_S256x64 packedbf16_S512x256_S256x64_256_128 q k v
  putHead arg8 harg8 ![256, 192] inb_S512x256_S256x64_256_192 slices_S512x256_o256_192_S256x64 packedbf16_S512x256_S256x64_256_192 q k v
  Prog.lift (.load arg8 (Rect.unit (s := S512x256) ![0, 0] S512x256.size inb_S512x256_S512x256_0_0).toLoadRect (View.loadsAt_vmem h_S512x256))

/-- A stage over a weight chunk, from its eight heads to the context read back. -/
def stageCtx (w : FVec F S3072x256 .bf16) : Prog (TpuEff nD τ sig (Elt F) Λ₀ .tc) (Vec F S512x256 .bf16) :=
  heads arg8 harg8 (qOf x cs sn p w) (kOf x cs sn p w) (vOf x w)

/-- The own chunk's stage: the result is set. -/
def stageOwn : Pr F := do
  let w : Vec F S3072x256 .bf16 ← Prog.lift (.load arg1 (Rect.unit (s := S3072x256) ![0, 0] S3072x256.size inb_S3072x256_S3072x256_0_0).toLoadRect (View.loadsAt_vmem h_S3072x256))
  let ctx : Vec F S512x256 .bf16 ← stageCtx arg8 harg8 x cs sn p (shapeCast S3072x256 w shapeCasts_S3072x256_S3072x256)
  let _v : Vec F S512x768 .f32 ← Prog.lift (.load arg5 (Rect.unit (s := S512x768) ![0, 0] S512x768.size inb_S512x768_S512x768_0_0).toLoadRect (View.loadsAt_vmem h_S512x768))
  Prog.lift (.store arg5 (Rect.unit (s := S512x768) ![0, 0] S512x768.size inb_S512x768_S512x768_0_0) (outDot (woOf (shapeCast S3072x256 w shapeCasts_S3072x256_S3072x256)) ctx) Finset.univ (View.stores_vmem_bits_univ h_S512x768 rfl) (.inl rfl))

/-- A received chunk's stage after its load: the result is added to. -/
def stageAdd (w : FVec F S3072x256 .bf16) : Pr F := do
  let ctx : Vec F S512x256 .bf16 ← stageCtx arg8 harg8 x cs sn p w
  let acc : Vec F S512x768 .f32 ← Prog.lift (.load arg5 (Rect.unit (s := S512x768) ![0, 0] S512x768.size inb_S512x768_S512x768_0_0).toLoadRect (View.loadsAt_vmem h_S512x768))
  let _v : Vec F S512x768 .f32 ← Prog.lift (.load arg5 (Rect.unit (s := S512x768) ![0, 0] S512x768.size inb_S512x768_S512x768_0_0).toLoadRect (View.loadsAt_vmem h_S512x768))
  Prog.lift (.store arg5 (Rect.unit (s := S512x768) ![0, 0] S512x768.size inb_S512x768_S512x768_0_0) (addf (shapeCast S512x768 acc shapeCasts_S512x768_S512x768) (outDot (woOf w) ctx)) Finset.univ (View.stores_vmem_bits_univ h_S512x768 rfl) (.inl rfl))

def stageR (j : Fin 8) : Pr F := do
  let w : Vec F S1x3072x256 .bf16 ← Prog.lift (.load arg6 (Rect.unit (s := S8x3072x256) ![j.val, 0, 0] S1x3072x256.size (inbCR j)).toLoadRect (View.loadsAt_vmem h_S1x3072x256))
  stageAdd arg5 arg8 harg8 x cs sn p (shapeCast S3072x256 w shapeCasts_S1x3072x256_S3072x256)
def stageL (j : Fin 7) : Pr F := do
  let w : Vec F S1x3072x256 .bf16 ← Prog.lift (.load arg7 (Rect.unit (s := S7x3072x256) ![j.val, 0, 0] S1x3072x256.size (inbCL j)).toLoadRect (View.loadsAt_vmem h_S1x3072x256))
  stageAdd arg5 arg8 harg8 x cs sn p (shapeCast S3072x256 w shapeCasts_S1x3072x256_S3072x256)

/-- What the copy into slot `j` reads: the own chunk for the first slot, the slot before it for the others. -/
abbrev srcR : Fin 8 → Bool → Memref sig .tc .vmem S1536x256 .bf16
  | ⟨0, _⟩, s => halfW arg1 s
  | ⟨j + 1, h⟩, s => halfR arg6 ⟨j, by omega⟩ s
abbrev srcL : Fin 7 → Bool → Memref sig .tc .vmem S1536x256 .bf16
  | ⟨0, _⟩, s => halfW arg1 s
  | ⟨j + 1, h⟩, s => halfL arg7 ⟨j, by omega⟩ s
include harg1 harg6 in
theorem exactSrcR : ∀ (j : Fin 8) (s : Bool), (srcR arg1 arg6 j s).view.WordExact
  | ⟨0, _⟩, s => exactW arg1 harg1 s
  | ⟨j + 1, h⟩, s => exactR arg6 harg6 ⟨j, by omega⟩ s
include harg1 harg7 in
theorem exactSrcL : ∀ (j : Fin 7) (s : Bool), (srcL arg1 arg7 j s).view.WordExact
  | ⟨0, _⟩, s => exactW arg1 harg1 s
  | ⟨j + 1, h⟩, s => exactL arg7 harg7 ⟨j, by omega⟩ s

/-- Start the copy into slot `j` of device `n`. -/
def startR (j : Fin 8) (s : Bool) (n : Dev nD) : Pr F :=
  startTo (srcR arg1 arg6 j s) (halfR arg6 j s) (semR arg9 j s) (semR arg10 j s) n (exactSrcR arg1 harg1 arg6 harg6 j s) (exactR arg6 harg6 j s)
def startL (j : Fin 7) (s : Bool) (n : Dev nD) : Pr F :=
  startTo (srcL arg1 arg7 j s) (halfL arg7 j s) (semL arg11 j s) (semL arg12 j s) n (exactSrcL arg1 harg1 arg7 harg7 j s) (exactL arg7 harg7 j s)
/-- Wait until half `s` of slot `j` has landed. -/
def recvR (j : Fin 8) (s : Bool) : Pr F :=
  waitFor (semR arg10 j s) (srcR arg1 arg6 j s) (halfR arg6 j s) (exactSrcR arg1 harg1 arg6 harg6 j s) (exactR arg6 harg6 j s)
def recvL (j : Fin 7) (s : Bool) : Pr F :=
  waitFor (semL arg12 j s) (srcL arg1 arg7 j s) (halfL arg7 j s) (exactSrcL arg1 harg1 arg7 harg7 j s) (exactL arg7 harg7 j s)
/-- Wait until the copy into slot `j` of the neighbour has left. -/
def doneR (j : Fin 8) (s : Bool) : Pr F :=
  waitFor (semR arg9 j s) (halfR arg6 j s) (srcR arg1 arg6 j s) (exactR arg6 harg6 j s) (exactSrcR arg1 harg1 arg6 harg6 j s)
def doneL (j : Fin 7) (s : Bool) : Pr F :=
  waitFor (semL arg11 j s) (halfL arg7 j s) (srcL arg1 arg7 j s) (exactL arg7 harg7 j s) (exactSrcL arg1 harg1 arg7 harg7 j s)

/-- A step going right: each half of slot `j` is waited for and sent on into slot `j'`; going left. -/
def stepR (j j' : Fin 8) (a b : Dev nD) : Pr F := do
  recvR arg1 harg1 arg6 harg6 arg10 j false
  startR arg1 harg1 arg6 harg6 arg9 arg10 j' false a
  recvR arg1 harg1 arg6 harg6 arg10 j true
  startR arg1 harg1 arg6 harg6 arg9 arg10 j' true b
def stepL (j j' : Fin 7) (a b : Dev nD) : Pr F := do
  recvL arg1 harg1 arg7 harg7 arg12 j false
  startL arg1 harg1 arg7 harg7 arg11 arg12 j' false a
  recvL arg1 harg1 arg7 harg7 arg12 j true
  startL arg1 harg1 arg7 harg7 arg11 arg12 j' true b
/-- A whole middle step: send on both ways, then compute with both received chunks. -/
def midStep (i i' : Fin 7) (a b c d : Dev nD) : Pr F := do
  stepR arg1 harg1 arg6 harg6 arg9 arg10 i.castSucc i'.castSucc a b
  stepL arg1 harg1 arg7 harg7 arg11 arg12 i i' c d
  stageL arg5 arg7 arg8 harg8 x cs sn p i
  stageR arg5 arg6 arg8 harg8 x cs sn p i.castSucc
/-- The waits for the copies of one hop to have left. -/
def donePair (i : Fin 7) : Pr F := do
  doneR arg1 harg1 arg6 harg6 arg9 i.castSucc false
  doneR arg1 harg1 arg6 harg6 arg9 i.castSucc true
  doneL arg1 harg1 arg7 harg7 arg11 i false
  doneL arg1 harg1 arg7 harg7 arg11 i true

end Pieces

/-- The pair's handshake counter. -/
abbrev barSem : Sems sig S_ := SemArray.scalar (sig.barrier 0 rfl)

/-- The whole body. -/
def bodyProg (arg0 : Memref sig .tc .vmem S512x768 .bf16) (arg1 : Memref sig .tc .vmem S3072x256 .bf16) (harg1 : arg1.IsWhole)
    (arg2 : Memref sig .tc .vmem S256x256 .bf16) (arg3 arg4 : Memref sig .tc .vmem S512x256 .f32) (arg5 : Memref sig .tc .vmem S512x768 .f32)
    (arg6 : Memref sig .tc .vmem S8x3072x256 .bf16) (harg6 : arg6.IsWhole) (arg7 : Memref sig .tc .vmem S7x3072x256 .bf16) (harg7 : arg7.IsWhole)
    (arg8 : Memref sig .tc .vmem S512x256 .bf16) (harg8 : arg8.IsWhole)
    (arg9 arg10 : DmaSems sig S8x2) (arg11 arg12 : DmaSems sig S7x2) : Pr F := do
  let d0 : Dev nD ← Prog.lift .deviceId
  semSignalWord (⟨k0_dev1 d0, k0_dev1_lt d0⟩ : Dev nD) barSem.sem 1#32
  semSignalWord (⟨k0_dev2 d0, k0_dev2_lt d0⟩ : Dev nD) barSem.sem 1#32
  semWaitWord barSem.sem 2#32
  let x₀ : Vec F S512x768 .bf16 ← Prog.lift (.load arg0 (Rect.unit (s := S512x768) ![0, 0] S512x768.size inb_S512x768_S512x768_0_0).toLoadRect (View.loadsAt_vmem h_S512x768))
  let cs₀ : Vec F S512x256 .f32 ← Prog.lift (.load arg3 (Rect.unit (s := S512x256) ![0, 0] S512x256.size inb_S512x256_S512x256_0_0).toLoadRect (View.loadsAt_vmem h_S512x256))
  let sn₀ : Vec F S512x256 .f32 ← Prog.lift (.load arg4 (Rect.unit (s := S512x256) ![0, 0] S512x256.size inb_S512x256_S512x256_0_0).toLoadRect (View.loadsAt_vmem h_S512x256))
  let p₀ : Vec F S256x256 .bf16 ← Prog.lift (.load arg2 (Rect.unit (s := S256x256) ![0, 0] S256x256.size inb_S256x256_S256x256_0_0).toLoadRect (View.loadsAt_vmem h_S256x256))
  let x := shapeCast S512x768 x₀ shapeCasts_S512x768_S512x768
  let cs := shapeCast S512x256 cs₀ shapeCasts_S512x256_S512x256
  let sn := shapeCast S512x256 sn₀ shapeCasts_S512x256_S512x256
  let p := p₀
  startR arg1 harg1 arg6 harg6 arg9 arg10 0 false ⟨k0_dev3 d0, k0_dev3_lt d0⟩
  startR arg1 harg1 arg6 harg6 arg9 arg10 0 true ⟨k0_dev4 d0, k0_dev4_lt d0⟩
  startL arg1 harg1 arg7 harg7 arg11 arg12 0 false ⟨k0_dev5 d0, k0_dev5_lt d0⟩
  startL arg1 harg1 arg7 harg7 arg11 arg12 0 true ⟨k0_dev6 d0, k0_dev6_lt d0⟩
  stageOwn arg1 arg5 arg8 harg8 x cs sn p
  midStep arg1 harg1 arg5 arg6 harg6 arg7 harg7 arg8 harg8 arg9 arg10 arg11 arg12 x cs sn p 0 1 ⟨k0_dev7 d0, k0_dev7_lt d0⟩ ⟨k0_dev8 d0, k0_dev8_lt d0⟩ ⟨k0_dev9 d0, k0_dev9_lt d0⟩ ⟨k0_dev10 d0, k0_dev10_lt d0⟩
  midStep arg1 harg1 arg5 arg6 harg6 arg7 harg7 arg8 harg8 arg9 arg10 arg11 arg12 x cs sn p 1 2 ⟨k0_dev11 d0, k0_dev11_lt d0⟩ ⟨k0_dev12 d0, k0_dev12_lt d0⟩ ⟨k0_dev13 d0, k0_dev13_lt d0⟩ ⟨k0_dev14 d0, k0_dev14_lt d0⟩
  midStep arg1 harg1 arg5 arg6 harg6 arg7 harg7 arg8 harg8 arg9 arg10 arg11 arg12 x cs sn p 2 3 ⟨k0_dev15 d0, k0_dev15_lt d0⟩ ⟨k0_dev16 d0, k0_dev16_lt d0⟩ ⟨k0_dev17 d0, k0_dev17_lt d0⟩ ⟨k0_dev18 d0, k0_dev18_lt d0⟩
  midStep arg1 harg1 arg5 arg6 harg6 arg7 harg7 arg8 harg8 arg9 arg10 arg11 arg12 x cs sn p 3 4 ⟨k0_dev19 d0, k0_dev19_lt d0⟩ ⟨k0_dev20 d0, k0_dev20_lt d0⟩ ⟨k0_dev21 d0, k0_dev21_lt d0⟩ ⟨k0_dev22 d0, k0_dev22_lt d0⟩
  midStep arg1 harg1 arg5 arg6 harg6 arg7 harg7 arg8 harg8 arg9 arg10 arg11 arg12 x cs sn p 4 5 ⟨k0_dev23 d0, k0_dev23_lt d0⟩ ⟨k0_dev24 d0, k0_dev24_lt d0⟩ ⟨k0_dev25 d0, k0_dev25_lt d0⟩ ⟨k0_dev26 d0, k0_dev26_lt d0⟩
  midStep arg1 harg1 arg5 arg6 harg6 arg7 harg7 arg8 harg8 arg9 arg10 arg11 arg12 x cs sn p 5 6 ⟨k0_dev27 d0, k0_dev27_lt d0⟩ ⟨k0_dev28 d0, k0_dev28_lt d0⟩ ⟨k0_dev29 d0, k0_dev29_lt d0⟩ ⟨k0_dev30 d0, k0_dev30_lt d0⟩
  stepR arg1 harg1 arg6 harg6 arg9 arg10 6 7 ⟨k0_dev31 d0, k0_dev31_lt d0⟩ ⟨k0_dev32 d0, k0_dev32_lt d0⟩
  stageR arg5 arg6 arg8 harg8 x cs sn p 6
  recvL arg1 harg1 arg7 harg7 arg12 6 false
  recvL arg1 harg1 arg7 harg7 arg12 6 true
  stageL arg5 arg7 arg8 harg8 x cs sn p 6
  recvR arg1 harg1 arg6 harg6 arg10 7 false
  recvR arg1 harg1 arg6 harg6 arg10 7 true
  stageR arg5 arg6 arg8 harg8 x cs sn p 7
  donePair arg1 harg1 arg6 harg6 arg7 harg7 arg9 arg11 0
  donePair arg1 harg1 arg6 harg6 arg7 harg7 arg9 arg11 1
  donePair arg1 harg1 arg6 harg6 arg7 harg7 arg9 arg11 2
  donePair arg1 harg1 arg6 harg6 arg7 harg7 arg9 arg11 3
  donePair arg1 harg1 arg6 harg6 arg7 harg7 arg9 arg11 4
  donePair arg1 harg1 arg6 harg6 arg7 harg7 arg9 arg11 5
  donePair arg1 harg1 arg6 harg6 arg7 harg7 arg9 arg11 6
  doneR arg1 harg1 arg6 harg6 arg9 7 false
  doneR arg1 harg1 arg6 harg6 arg9 7 true

set_option maxRecDepth 65536 in
theorem body_eq (arg0 : Memref sig .tc .vmem S512x768 .bf16) (harg0 : arg0.IsWhole) (arg1 : Memref sig .tc .vmem S3072x256 .bf16) (harg1 : arg1.IsWhole)
    (arg2 : Memref sig .tc .vmem S256x256 .bf16) (harg2 : arg2.IsWhole) (arg3 : Memref sig .tc .vmem S512x256 .f32) (harg3 : arg3.IsWhole) (arg4 : Memref sig .tc .vmem S512x256 .f32) (harg4 : arg4.IsWhole) (arg5 : Memref sig .tc .vmem S512x768 .f32) (harg5 : arg5.IsWhole)
    (arg6 : Memref sig .tc .vmem S8x3072x256 .bf16) (harg6 : arg6.IsWhole) (arg7 : Memref sig .tc .vmem S7x3072x256 .bf16) (harg7 : arg7.IsWhole)
    (arg8 : Memref sig .tc .vmem S512x256 .bf16) (harg8 : arg8.IsWhole)
    (arg9 arg10 : DmaSems sig S8x2) (arg11 arg12 : DmaSems sig S7x2) :
    cc0_body (F := F) arg0 harg0 arg1 harg1 arg2 harg2 arg3 harg3 arg4 harg4 arg5 harg5 arg6 harg6 arg7 harg7 arg8 harg8 arg9 arg10 arg11 arg12
      = bodyProg arg0 arg1 harg1 arg2 arg3 arg4 arg5 arg6 harg6 arg7 harg7 arg8 harg8 arg9 arg10 arg11 arg12 := rfl

end Cert.KernelIdeal.Hand

end
-- ==== Proof.Proto.lean ====
/-
  The ring protocol of the kernel: the thirty half-chunk transfers of a device (`Ch`: sixteen going right, fourteen going
  left), the buffers and counters of each, and what each one's landing holds.

  Device `c`'s right neighbour is `nxt c`, its left neighbour `prv c`. Before anything is sent, each device signals both
  neighbours once and waits for two units: the unit from the right neighbour hands over that device's right-going slots,
  the unit from the left one that device's left-going slots. Transfer `k` of device `c` then goes into slot half `dst k`
  of `tgt k c`; it pays the target's landing counter with the slot half at the chunk it carries (`cont`), and `c`'s own
  sending counter with the share of the source it read. A slot half that landed is read by the next hop's transfer and by
  the compute stage at once: the transfer takes the left half of the share, the stage reads with the right half.
-/
module

public import proofs.«01_k».proof.Proof.Body
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.ValueLayout

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩
theorem nxt_inj : Function.Injective nxt := ring.injective
theorem prv_inj : Function.Injective prv := ring.symm.injective

/-! ## Buffers, channels, counters -/

abbrev wM : Memref sig .tc .vmem S3072x256 .bf16 := Memref.whole cc0_stg1_0
abbrev gR : Memref sig .tc .vmem S8x3072x256 .bf16 := Memref.whole cc0_scratch0
abbrev gL : Memref sig .tc .vmem S7x3072x256 .bf16 := Memref.whole cc0_scratch1
abbrev cM : Memref sig .tc .vmem S512x256 .bf16 := Memref.whole cc0_scratch2

/-- A transfer: the slot it lands in and which half. -/
abbrev Ch : Type := (Fin 8 × Bool) ⊕ (Fin 7 × Bool)

def slotOf : Ch → ℕ
  | .inl (j, _) => j.val
  | .inr (j, _) => j.val
/-- The place in the order in which a device starts its transfers. -/
def rank : Ch → ℕ
  | .inl (j, s) => 4 * j.val + bit s
  | .inr (j, s) => 4 * j.val + 2 + bit s
theorem rank_inj : Function.Injective rank := by decide
theorem rank_lt (k : Ch) : rank k < 30 := by revert k; decide

def dst : Ch → Memref sig .tc .vmem S1536x256 .bf16
  | .inl (j, s) => halfR gR j s
  | .inr (j, s) => halfL gL j s
def src : Ch → Memref sig .tc .vmem S1536x256 .bf16
  | .inl (j, s) => srcR wM gR j s
  | .inr (j, s) => srcL wM gL j s
def sendS : Ch → DmaSem sig
  | .inl (j, s) => semR cc0_scratch3 j s
  | .inr (j, s) => semL cc0_scratch5 j s
def recvS : Ch → DmaSem sig
  | .inl (j, s) => semR cc0_scratch4 j s
  | .inr (j, s) => semL cc0_scratch6 j s
def tgt : Ch → Dev nD → Dev nD
  | .inl _ => nxt
  | .inr _ => prv
/-- The device a transfer comes from. -/
def org : Ch → Dev nD → Dev nD
  | .inl _ => prv
  | .inr _ => nxt
theorem org_tgt (k : Ch) (c : Dev nD) : org k (tgt k c) = c := by
  rcases k with k | k
  · exact prv_nxt c
  · exact nxt_prv c
theorem tgt_org (k : Ch) (c : Dev nD) : tgt k (org k c) = c := by
  rcases k with k | k
  · exact nxt_prv c
  · exact prv_nxt c
def tgtE (k : Ch) : Dev nD ≃ Dev nD := ⟨tgt k, org k, org_tgt k, tgt_org k⟩

theorem dst_exact (k : Ch) : (dst k).view.WordExact := by
  rcases k with ⟨j, s⟩ | ⟨j, s⟩
  · exact exactR gR (Memref.isWhole_whole _) j s
  · exact exactL gL (Memref.isWhole_whole _) j s
theorem src_exact (k : Ch) : (src k).view.WordExact := by
  rcases k with ⟨j, s⟩ | ⟨j, s⟩
  · exact exactSrcR wM (Memref.isWhole_whole _) gR (Memref.isWhole_whole _) j s
  · exact exactSrcL wM (Memref.isWhole_whole _) gL (Memref.isWhole_whole _) j s

/-- Which transfer and which end a counter belongs to: `true` its landing, `false` its sending. -/
def kindOf (n : DmaSem sig) : Option (Bool × Ch) :=
  if h : n.val < 6 then none
  else if h : n.val < 22 then some (false, .inl (⟨(n.val - 6) / 2, by omega⟩, decide ((n.val - 6) % 2 = 1)))
  else if h : n.val < 38 then some (true, .inl (⟨(n.val - 22) / 2, by omega⟩, decide ((n.val - 22) % 2 = 1)))
  else if h : n.val < 52 then some (false, .inr (⟨(n.val - 38) / 2, by omega⟩, decide ((n.val - 38) % 2 = 1)))
  else if h : n.val < 66 then some (true, .inr (⟨(n.val - 52) / 2, by omega⟩, decide ((n.val - 52) % 2 = 1)))
  else none

theorem kindOf_send (k : Ch) : kindOf (sendS k) = some (false, k) := by revert k; decide
theorem kindOf_recv (k : Ch) : kindOf (recvS k) = some (true, k) := by revert k; decide

/-! ## What the chunks hold -/

/-- Every device's own chunk. -/
abbrev Own (F : FTy → Type) : Type := Dev nD → S3072x256.Idx → Elt F .bf16

/-- Slot `j` of the right-going buffer of device `c` holds the chunk of the device `j + 1` to the left; of the left-going
    one, that of the device `j + 1` to the right. -/
def GR (W : Own F) (c : Dev nD) (i : S8x3072x256.Idx) : Elt F .bf16 := W (prv^[(i 0).val + 1] c) (ix2 (i 1) (i 2))
def GL (W : Own F) (c : Dev nD) (i : S7x3072x256.Idx) : Elt F .bf16 := W (nxt^[(i 0).val + 1] c) (ix2 (i 1) (i 2))

/-- What slot half `dst k` holds on `c` once it has landed there; what transfer `k` of `c` reads. -/
def cont (W : Own F) : (k : Ch) → (c : Dev nD) → Buf (Elt F) ((dst k).view.loc (c : Thread nD τ))
  | .inl _, c => GR W c
  | .inr _, c => GL W c
def scont (W : Own F) : (k : Ch) → (c : Dev nD) → Buf (Elt F) ((src k).view.loc (c : Thread nD τ))
  | .inl (⟨0, _⟩, _), c => W c
  | .inl (⟨_ + 1, _⟩, _), c => GR W c
  | .inr (⟨0, _⟩, _), c => W c
  | .inr (⟨_ + 1, _⟩, _), c => GL W c

theorem emb_halfW (s : Bool) (z : S1536x256.Idx) :
    ((halfW wM s).view.emb z 0).val = off s + (z 0).val ∧ ((halfW wM s).view.emb z 1).val = (z 1).val := by
  constructor
  · show off s + 1 * (z 0).val = _; rw [one_mul]
  · show 0 + 1 * (z 1).val = _; rw [one_mul, zero_add]

theorem emb_halfR (j : Fin 8) (s : Bool) (z : S1536x256.Idx) :
    ((halfR gR j s).view.emb z 0).val = j.val ∧ ((halfR gR j s).view.emb z 1).val = off s + (z 0).val
      ∧ ((halfR gR j s).view.emb z 2).val = (z 1).val := by
  have e : (halfR gR j s).view.emb z
      = (Rect.unit (s := S8x3072x256) ![j.val, off s, 0] S1x1536x256.size (inbR j s)).emb (ix3 (⟨0, Nat.one_pos⟩ : Fin 1) (z 0) (z 1)) := by
    show (Rect.unit (s := S8x3072x256) ![j.val, off s, 0] S1x1536x256.size (inbR j s)).emb (Shape.reshapeEquiv _ z) = _
    exact congrArg _ ((congrArg _ (eq_ix2 z)).trans (reshapeEquiv_ix2_1ab _ (z 0) (z 1)))
  rw [e]
  refine ⟨?_, ?_, ?_⟩
  · show j.val + 1 * 0 = _; omega
  · show off s + 1 * (z 0).val = _; rw [one_mul]
  · show 0 + 1 * (z 1).val = _; rw [one_mul, zero_add]

theorem emb_halfL (j : Fin 7) (s : Bool) (z : S1536x256.Idx) :
    ((halfL gL j s).view.emb z 0).val = j.val ∧ ((halfL gL j s).view.emb z 1).val = off s + (z 0).val
      ∧ ((halfL gL j s).view.emb z 2).val = (z 1).val := by
  have e : (halfL gL j s).view.emb z
      = (Rect.unit (s := S7x3072x256) ![j.val, off s, 0] S1x1536x256.size (inbL j s)).emb (ix3 (⟨0, Nat.one_pos⟩ : Fin 1) (z 0) (z 1)) := by
    show (Rect.unit (s := S7x3072x256) ![j.val, off s, 0] S1x1536x256.size (inbL j s)).emb (Shape.reshapeEquiv _ z) = _
    exact congrArg _ ((congrArg _ (eq_ix2 z)).trans (reshapeEquiv_ix2_1ab _ (z 0) (z 1)))
  rw [e]
  refine ⟨?_, ?_, ?_⟩
  · show j.val + 1 * 0 = _; omega
  · show off s + 1 * (z 0).val = _; rw [one_mul]
  · show 0 + 1 * (z 1).val = _; rw [one_mul, zero_add]

theorem own_congr (W : Own F) {d d' : Dev nD} {i i' : S3072x256.Idx} (hd : d = d') (h0 : (i 0).val = (i' 0).val) (h1 : (i 1).val = (i' 1).val) :
    W d i = W d' i' := by
  subst hd
  refine congrArg (W d) (funext fun a => ?_)
  match a with
  | ⟨0, _⟩ => exact Fin.ext h0
  | ⟨1, _⟩ => exact Fin.ext h1

/-- Each transfer carries to the target what the target's slot half is said to hold. -/
theorem carried (W : Own F) (k : Ch) (c : Dev nD) (z : S1536x256.Idx) :
    (src k).view.read (Elt F) (scont W k c) z = (dst k).view.read (Elt F) (cont W k (tgt k c)) z := by
  rcases k with ⟨⟨j, hj⟩, s⟩ | ⟨⟨j, hj⟩, s⟩
  · have hd := emb_halfR ⟨j, hj⟩ s z
    rcases j with _ | j
    · have hs := emb_halfW s z
      refine own_congr W (show c = prv^[((halfR gR ⟨0, hj⟩ s).view.emb z 0).val + 1] (nxt c) from ?_) ?_ ?_
      · rw [hd.1]; exact (prv_nxt c).symm
      · exact hs.1.trans hd.2.1.symm
      · exact hs.2.trans hd.2.2.symm
    · have hs := emb_halfR ⟨j, by omega⟩ s z
      refine own_congr W (show prv^[((halfR gR ⟨j, Nat.lt_of_succ_lt hj⟩ s).view.emb z 0).val + 1] c = prv^[((halfR gR ⟨j + 1, hj⟩ s).view.emb z 0).val + 1] (nxt c) from ?_) ?_ ?_
      · rw [hd.1, hs.1, Function.iterate_succ_apply _ (j + 1)]
        exact congrArg _ (prv_nxt c).symm
      · exact hs.2.1.trans hd.2.1.symm
      · exact hs.2.2.trans hd.2.2.symm
  · have hd := emb_halfL ⟨j, hj⟩ s z
    rcases j with _ | j
    · have hs := emb_halfW s z
      refine own_congr W (show c = nxt^[((halfL gL ⟨0, hj⟩ s).view.emb z 0).val + 1] (prv c) from ?_) ?_ ?_
      · rw [hd.1]; exact (nxt_prv c).symm
      · exact hs.1.trans hd.2.1.symm
      · exact hs.2.trans hd.2.2.symm
    · have hs := emb_halfL ⟨j, by omega⟩ s z
      refine own_congr W (show nxt^[((halfL gL ⟨j, Nat.lt_of_succ_lt hj⟩ s).view.emb z 0).val + 1] c = nxt^[((halfL gL ⟨j + 1, hj⟩ s).view.emb z 0).val + 1] (prv c) from ?_) ?_ ?_
      · rw [hd.1, hs.1, Function.iterate_succ_apply _ (j + 1)]
        exact congrArg _ (nxt_prv c).symm
      · exact hs.2.1.trans hd.2.1.symm
      · exact hs.2.2.trans hd.2.2.symm

/-! ## Points-tos -/

abbrev UB := URounds (GSem nD τ sig) Bool
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Slot half `dst k` of device `c`, at a share and contents; what transfer `k` of device `c` reads. -/
abbrev dPts (k : Ch) (c : Dev nD) (q : PosShare TreeShare) (f : Buf (Elt F) ((dst k).view.loc (c : Thread nD τ))) : sProp 𝕄 :=
  (dst k).view.loc (c : Thread nD τ) ↦[(dst k).view.set]{q} f
abbrev sPts (k : Ch) (c : Dev nD) (q : PosShare TreeShare) (f : Buf (Elt F) ((src k).view.loc (c : Thread nD τ))) : sProp 𝕄 :=
  (src k).view.loc (c : Thread nD τ) ↦[(src k).view.set]{q} f

/-- The landing's points-to is the slot half at the carried chunk. -/
theorem landed_eq (W : Own F) (k : Ch) (c : Dev nD) (fd : Buf (Elt F) ((dst k).view.loc (tgt k c : Thread nD τ))) :
    (dPts k (tgt k c) fullShare ((dst k).view.write (Elt F) fd ((src k).view.read (Elt F) (scont W k c)) Finset.univ) : sProp 𝕄)
      = dPts k (tgt k c) fullShare (cont W k (tgt k c)) := by
  refine pointsTo_congr fun i hi => ?_
  obtain ⟨z, -, rfl⟩ := Finset.mem_map.mp hi
  rw [View.write_emb_of_mem _ _ (Finset.mem_univ _), carried W k c z]
  rcases k with k | k <;> rfl

/-- The share a transfer reads with: half of what there is; the left-going first transfer takes half of the half the
    right-going one leaves. -/
def shr : Ch → PosShare TreeShare
  | .inr (⟨0, _⟩, _) => (fullShare : PosShare TreeShare).right.left
  | _ => (fullShare : PosShare TreeShare).left

/-! ## The schedule -/

abbrev barS : Sem sig := barSem.sem
abbrev barCell (c : Dev nD) : GSem nD τ sig := ((c : Thread nD τ), .reg barS)
abbrev sendCell (k : Ch) (c : Dev nD) : GSem nD τ sig := ((c : Thread nD τ), .dma (sendS k))
abbrev recvCell (k : Ch) (c : Dev nD) : GSem nD τ sig := ((c : Thread nD τ), .dma (recvS k))

/-- The bytes of one transfer, in the counters' unit. -/
abbrev N : ℕ := (halfW wM false).view.dmaCredit
theorem N_pos : 0 < N := View.dmaCredit_pos _ (by decide)
theorem credit_dst (k : Ch) : (dst k).view.dmaCredit = N := by rcases k with k | k <;> rfl
theorem credit_src (k : Ch) : (src k).view.dmaCredit = N := by
  rcases k with ⟨⟨_ | j, hj⟩, s⟩ | ⟨⟨_ | j, hj⟩, s⟩ <;> rfl

/-- What a device needs before it may start transfer `k`: the target's slot half, at whatever it holds, and that the
    target's landing counter is open. -/
def slotFor (k : Ch) (c : Dev nD) : sProp 𝕄 :=
  iprop((∃ f, dPts k (tgt k c) fullShare f) ∗ reached ER (recvCell k (tgt k c)) 0)

/-- The payment on device `c`'s barrier: `true` by the right neighbour, `false` by the left one. -/
def barPay (c : Dev nD) : Bool → sProp 𝕄
  | true => bigSep Finset.univ fun x : Fin 8 × Bool => slotFor (.inl x) c
  | false => bigSep Finset.univ fun x : Fin 7 × Bool => slotFor (.inr x) c
/-- What a sending counter holds: the source's share back. -/
def sendPay (W : Own F) (k : Ch) (c : Dev nD) : sProp 𝕄 := sPts k c (shr k) (scont W k c)
/-- What a landing counter holds: the slot half at the carried chunk. -/
def recvPay (W : Own F) (k : Ch) (c : Dev nD) : sProp 𝕄 := dPts k c fullShare (cont W k c)

/-- The duties of a counter, all in round 0. -/
def dutiesOf : SemLoc sig → Finset Bool
  | .reg _ => Finset.univ
  | .dma n => if (kindOf n).isSome then {false} else ∅
def payOf (W : Own F) (c : Dev nD) : SemLoc sig → Bool → sProp 𝕄
  | .reg _, d => barPay c d
  | .dma n, _ => match kindOf n with
    | some (true, k) => recvPay W k c
    | some (false, k) => sendPay W k c
    | none => iprop(emp)
def amountOf' : SemLoc sig → ℕ
  | .reg _ => 1
  | .dma _ => N

def Rd (W : Own F) : Rounds.Schedule (GSem nD τ sig) Bool 𝕄 where
  duties g r := if r = 0 ∧ g.1.2 = .tc then dutiesOf g.2 else ∅
  unitless _ := False
  amount g _ _ := amountOf' g.2
  payload g _ d := payOf W g.1.1 g.2 d
  amount_pos g _ _ _ := by
    obtain ⟨_, _ | _⟩ := g
    · exact Nat.one_pos
    · exact N_pos

instance Rd_payload_storable (W : Own F) (g : GSem nD τ sig) (r : ℕ) (d : Bool) :
    BI.Storable (upEmb : UEmb _ 𝕄) ((Rd W).payload g r d) := by
  show BI.Storable upEmb (payOf W g.1.1 g.2 d)
  obtain ⟨t, n | n⟩ := g
  · show BI.Storable upEmb (barPay t.1 d)
    cases d <;> unfold barPay slotFor <;> infer_instance
  · show BI.Storable upEmb (match kindOf n with
      | some (true, k) => recvPay W k t.1
      | some (false, k) => sendPay W k t.1
      | none => iprop(emp))
    unfold recvPay sendPay
    split <;> infer_instance

section Sched

variable (W : Own F) (k : Ch) (c : Dev nD)

theorem duties_bar : (Rd W).duties (barCell c) 0 = Finset.univ := by dsimp only [Rd]; exact if_pos ⟨rfl, rfl⟩
theorem duties_send : (Rd W).duties (sendCell k c) 0 = {false} := by
  dsimp only [Rd]; rw [if_pos ⟨rfl, rfl⟩]; unfold dutiesOf; dsimp only; rw [kindOf_send]; rfl
theorem duties_recv : (Rd W).duties (recvCell k c) 0 = {false} := by
  dsimp only [Rd]; rw [if_pos ⟨rfl, rfl⟩]; unfold dutiesOf; dsimp only; rw [kindOf_recv]; rfl
theorem duties_later (g : GSem nD τ sig) : ∀ r, 1 ≤ r → (Rd W).duties g r = ∅ :=
  fun r hr => by dsimp only [Rd]; rw [if_neg (fun h => by omega)]

theorem amount_bar (d : Bool) : (Rd W).amount (barCell c) 0 d = 1 := rfl
theorem amount_send (d : Bool) : (Rd W).amount (sendCell k c) 0 d = N := rfl
theorem amount_recv (d : Bool) : (Rd W).amount (recvCell k c) 0 d = N := rfl

theorem expect_bar : (Rd W).expect (barCell c) 0 = 2 := by
  unfold Schedule.expect Schedule.amountOf; rw [duties_bar]; rfl
theorem expect_send : (Rd W).expect (sendCell k c) 0 = N := by
  unfold Schedule.expect Schedule.amountOf; rw [duties_send, Finset.sum_singleton, amount_send]
theorem expect_recv : (Rd W).expect (recvCell k c) 0 = N := by
  unfold Schedule.expect Schedule.amountOf; rw [duties_recv, Finset.sum_singleton, amount_recv]

theorem payload_bar (d : Bool) : (Rd W).payload (barCell c) 0 d = barPay c d := rfl
theorem payload_send (d : Bool) : (Rd W).payload (sendCell k c) 0 d = sendPay W k c := by
  dsimp only [Rd]; unfold payOf; dsimp only; rw [kindOf_send]
theorem payload_recv (d : Bool) : (Rd W).payload (recvCell k c) 0 d = recvPay W k c := by
  dsimp only [Rd]; unfold payOf; dsimp only; rw [kindOf_recv]

theorem rest_bar : bigSep ((Rd W).duties (barCell c) 0 \ ∅) (fun d => (Rd W).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_send : bigSep ((Rd W).duties (sendCell k c) 0 \ ∅) (fun d => (Rd W).payload (sendCell k c) 0 d) = sendPay W k c := by
  rw [Finset.sdiff_empty, duties_send, bigSep_singleton, payload_send]
theorem rest_recv : bigSep ((Rd W).duties (recvCell k c) 0 \ ∅) (fun d => (Rd W).payload (recvCell k c) 0 d) = recvPay W k c := by
  rw [Finset.sdiff_empty, duties_recv, bigSep_singleton, payload_recv]

end Sched

end Cert.KernelIdeal.Hand

end
-- ==== Proof.Steps.lean ====
/-
  What a device owes and when it may wait; and the run of one transfer's start, of one wait for a landing and of one wait
  for a sending, each at any transfer `k` of any device `c`.
-/
module

public import proofs.«01_k».proof.Proof.Proto

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What a device owes -/

/-- The landings a device still owes once it has started its first `n` transfers. -/
def owedN (c : Dev nD) (n : ℕ) : CellTallies nD τ sig Unit :=
  ∑ k ∈ Finset.univ.filter (fun k : Ch => n ≤ rank k), tallyAt (recvCell k (tgt k c)) () N
/-- At the start of the kernel: every landing, and one unit on each neighbour's barrier. -/
def O₀ (c : Dev nD) : CellTallies nD τ sig Unit :=
  owedN c 0 + tallyAt (barCell (nxt c)) () 1 + tallyAt (barCell (prv c)) () 1

theorem owedN_step (c : Dev nD) (k : Ch) : owedN c (rank k) = owedN c (rank k + 1) + tallyAt (recvCell k (tgt k c)) () N := by
  have e : Finset.univ.filter (fun k' : Ch => rank k ≤ rank k') = insert k (Finset.univ.filter fun k' : Ch => rank k + 1 ≤ rank k') := by
    ext k'
    simp only [Finset.mem_filter, Finset.mem_univ, true_and, Finset.mem_insert]
    constructor
    · intro h
      rcases Nat.eq_or_lt_of_le h with h | h
      · exact .inl (rank_inj h.symm)
      · exact .inr h
    · rintro (rfl | h)
      · exact le_rfl
      · omega
  unfold owedN
  rw [e, Finset.sum_insert (by simp only [Finset.mem_filter, Finset.mem_univ, true_and]; omega), add_comm]

theorem owedN_last (c : Dev nD) : owedN c 30 = 0 := by
  unfold owedN
  rw [Finset.filter_false_of_mem fun k _ => by have := rank_lt k; omega, Finset.sum_empty]

theorem owedN_pos {c : Dev nD} {n : ℕ} {g : GSem nD τ sig} {u : Unit} (h : 0 < owedN c n g u) :
    ∃ k : Ch, n ≤ rank k ∧ g = recvCell k (tgt k c) := by
  unfold owedN at h
  rw [Finset.sum_apply, Finsupp.finset_sum_apply] at h
  obtain ⟨k, hk, hne⟩ := Finset.exists_ne_zero_of_sum_ne_zero h.ne'
  refine ⟨k, (Finset.mem_filter.mp hk).2, ?_⟩
  rw [tallyAt_apply] at hne
  by_contra hg
  exact hne (if_neg fun h => hg h.1)

theorem O₀_pos {c : Dev nD} {g : GSem nD τ sig} {u : Unit} (h : 0 < O₀ c g u) :
    (∃ k : Ch, g = recvCell k (tgt k c)) ∨ g = barCell (nxt c) ∨ g = barCell (prv c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨k, -, hk⟩ := owedN_pos h; exact .inl ⟨k, hk⟩
    · rw [tallyAt_apply] at h
      split at h
      · next hg => exact .inr (.inl hg.1)
      · exact absurd h (Nat.lt_irrefl 0)
  · rw [tallyAt_apply] at h
    split at h
    · next hg => exact .inr (.inr hg.1)
    · exact absurd h (Nat.lt_irrefl 0)

/-! ## Levels -/

def L (g : GSem nD τ sig) : Finset Unit := if g.1.2 = .tc then {()} else ∅
/-- Barriers at 1, the landings of slot `j` at `j + 2`, the rest at 0. -/
def lvS : SemLoc sig → ℕ
  | .reg _ => 1
  | .dma n => match kindOf n with
    | some (true, k) => slotOf k + 2
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_recv (k : Ch) : lvS (.dma (recvS k)) = slotOf k + 2 := by unfold lvS; dsimp only; rw [kindOf_recv]
theorem lvS_send (k : Ch) : lvS (.dma (sendS k)) = 0 := by unfold lvS; dsimp only; rw [kindOf_send]

theorem rank_slot (k : Ch) : rank k < 4 * (slotOf k + 1) := by revert k; decide

/-- A device that has started its first `n` transfers may wait on a counter below the levels of all it still owes. -/
theorem mayWait (c : Dev nD) (n : ℕ) (sm : SemLoc sig) (h : ∀ k : Ch, n ≤ rank k → lvS sm < slotOf k + 2) :
    (levAts L lv : sProp 𝕄) ⊢ MayWait (c : Thread nD τ) sm () (owedN c n) :=
  MayOwe.of_cut (L := L) (lev := lv) (lvS sm) (fun p hp => by rw [Finset.mem_singleton.mp hp, L_tc]; exact Finset.mem_singleton_self _)
    (fun g u hg => by
      obtain ⟨k, -, rfl⟩ := owedN_pos hg
      rw [L_tc]; exact Finset.mem_singleton_self _)
    (fun p hp => by rw [Finset.mem_singleton.mp hp]; exact le_rfl)
    (fun g u hg => by
      obtain ⟨k, hk, rfl⟩ := owedN_pos hg
      show lvS sm < lvS (.dma (recvS k))
      rw [lvS_recv]; exact h k hk)

/-- The record of all levels. -/
@[irreducible] def levs : sProp 𝕄 := levAts L lv
theorem levs_eq : (levs : sProp 𝕄) = levAts L lv := by unfold levs; rfl
instance levs_persistent : BI.Persistent (levs : sProp 𝕄) := by rw [levs_eq]; infer_instance

/-! ## Ghost state -/

variable (W : Own F) (K : GSem nD τ sig → ℕ)

/-- Per transfer, what may be consulted: the three counters' invariants, and that its two own counters are open. -/
def chPerm (c : Dev nD) (k : Ch) : sProp 𝕄 :=
  iprop(cellInv ER (Rd W) (K (sendCell k c)) (sendCell k c) ∗ cellInv ER (Rd W) (K (recvCell k c)) (recvCell k c)
    ∗ cellInv ER (Rd W) (K (recvCell k (tgt k c))) (recvCell k (tgt k c))
    ∗ reached ER (sendCell k c) 0 ∗ reached ER (recvCell k c) 0)
instance chPerm_persistent (c : Dev nD) (k : Ch) : BI.Persistent (chPerm W K c k) := by unfold chPerm; infer_instance

def barPerm (c : Dev nD) : sProp 𝕄 :=
  iprop(cellInv ER (Rd W) (K (barCell c)) (barCell c) ∗ cellInv ER (Rd W) (K (barCell (nxt c))) (barCell (nxt c))
    ∗ cellInv ER (Rd W) (K (barCell (prv c))) (barCell (prv c)) ∗ reached ER (barCell (nxt c)) 0 ∗ reached ER (barCell (prv c)) 0)
instance barPerm_persistent (c : Dev nD) : BI.Persistent (barPerm W K c) := by unfold barPerm; infer_instance

/-- All that device `c` may consult. -/
def perms (c : Dev nD) : sProp 𝕄 := iprop((bigSep Finset.univ fun k : Ch => chPerm W K c k) ∗ barPerm W K c ∗ levs)
instance perms_persistent (c : Dev nD) : BI.Persistent (perms W K c) := by unfold perms; infer_instance

theorem perms_at (c : Dev nD) (k : Ch) : perms W K c ⊢ chPerm W K c k := by
  unfold perms
  exact BI.Laws.sep_elim_left.trans (bigSep_elim (Φ := fun k : Ch => chPerm W K c k) (Finset.mem_univ k))
theorem perms_bar (c : Dev nD) : perms W K c ⊢ barPerm W K c := by unfold perms; iintro ⟨-, H, -⟩; iexact H
theorem perms_lev (c : Dev nD) : perms W K c ⊢ (levs : sProp 𝕄) := by
  unfold perms
  exact BI.Laws.sep_elim_right.trans BI.Laws.sep_elim_right
theorem perms_mayWait (c : Dev nD) (n : ℕ) (sm : SemLoc sig) (h : ∀ k : Ch, n ≤ rank k → lvS sm < slotOf k + 2) :
    perms W K c ⊢ MayWait (c : Thread nD τ) sm () (owedN c n) := by
  refine BI.Entails.trans (perms_lev W K c) ?_
  rw [levs_eq]
  exact mayWait c n sm h

/-- What starting transfer `k` spends, beside the target's slot half. -/
def toStart (k : Ch) (c : Dev nD) : sProp 𝕄 :=
  iprop(dutyTok ER (sendCell k c) 0 false ∗ dutyTok ER (recvCell k (tgt k c)) 0 false ∗ atPos ER (sendCell k c) 0 ∅ 0)
/-- What waiting for the landing on `c` spends. -/
def toRecv (k : Ch) (c : Dev nD) : sProp 𝕄 := iprop(cred (tallyAt (recvCell k c) () N) ∗ atPos ER (recvCell k c) 0 ∅ 0)
/-- A transfer on its way. -/
def started (k : Ch) (c : Dev nD) : sProp 𝕄 := iprop(cred (tallyAt (sendCell k c) () N) ∗ atPos ER (sendCell k c) 0 ∅ 0)
/-- The device owes all but its first `n` transfers. -/
def owing (c : Dev nD) (n : ℕ) : sProp 𝕄 := iprop(∃ Wt, owes (c : Thread nD τ) (owedN c n) Wt)

theorem close (κ : ℕ) (g : GSem nD τ sig) :
    iprop(cellInv ER (Rd W) κ g ∗ atPos ER g (0 + 1) ∅ 0) ⊢ (|={Set.univ}=> semVal g 0 : sProp 𝕄) :=
  Rounds.cell_close ER (Rd W) (Set.mem_univ κ) id (duties_later W g)

abbrev 𝒱₀ : Variants := Variants.none

theorem wp_startK (c : Dev nD) (k : Ch) (n : Dev nD) (hn : n = tgt k c) (h₁ : (src k).view.WordExact) (h₂ : (dst k).view.WordExact) (Kt : PUnit → sProp 𝕄) :
    iprop(perms W K c ∗ toStart k c ∗ slotFor k c ∗ sPts k c (shr k) (scont W k c) ∗ owing c (rank k)
        ∗ ((started k c ∗ owing c (rank k + 1)) -∗ Kt ⟨⟩))
      ⊢ wp frame (wpE (defs₀ (F := F)) 𝒱₀ c none) Set.univ (startTo (src k) (dst k) (sendS k) (recvS k) n h₁ h₂) Kt := by
  subst hn
  unfold toStart slotFor owing startTo
  iintro ⟨#HP, ⟨HtS, HtR, Hat⟩, ⟨⟨%fd, Hd⟩, #HrR⟩, Hs, ⟨%Wt, HO⟩, Hk⟩
  ihave #HC := (perms_at W K c k) $$ HP
  unfold chPerm
  icases HC with ⟨#HIs, -, #HIr, #HrS, -⟩
  iapply (Rounds.wp_send_pointsTo 𝒱₀ ER (Rd W) (c : Thread nD τ) none (c' := (tgt k c : Thread nD τ)) (src := src k) (dst := dst k)
      (sS := .dma (sendS k)) (sem := .dma (recvS k)) (q := shr k) (fs := scont W k c) (κ₁ := K (sendCell k c)) (κ₂ := K (recvCell k (tgt k c)))
      (r₁ := 0) (r₂ := 0) (d₁ := false) (d₂ := false) (fd := fd)
      (by rw [duties_send]; exact Finset.mem_singleton_self _) (by rw [duties_recv]; exact Finset.mem_singleton_self _)
      () () N (credit_dst k) (amount_send W k c false) (amount_recv W k (tgt k c) false) (owedN c (rank k + 1)) (owedN_step c k) (W := Wt)
      (by rw [payload_send]; exact BI.Entails.refl _)
      (by rw [payload_recv]; exact Entails.of_eq (landed_eq W k c fd))) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  rw [wp_ret]
  imodintro
  iapply Hk
  unfold started
  isplitr [HO]
  · isplitl [HcS] <;> iassumption
  iexists Wt; iexact HO

theorem wp_recvK (c : Dev nD) (k : Ch) (n : ℕ) (hn : 4 * (slotOf k + 1) ≤ n) (h₁ : (src k).view.WordExact) (h₂ : (dst k).view.WordExact) (Kt : PUnit → sProp 𝕄) :
    iprop(perms W K c ∗ toRecv k c ∗ owing c n
        ∗ ((semVal (recvCell k c) 0 ∗ dPts k c fullShare (cont W k c) ∗ owing c n) -∗ Kt ⟨⟩))
      ⊢ wp frame (wpE (defs₀ (F := F)) 𝒱₀ c none) Set.univ (waitFor (recvS k) (src k) (dst k) h₁ h₂) Kt := by
  unfold toRecv owing waitFor
  iintro ⟨#HP, ⟨Hc, Hat⟩, ⟨%Wt, HO⟩, Hk⟩
  ihave #HC := (perms_at W K c k) $$ HP
  unfold chPerm
  icases HC with ⟨-, #HIr, -, -, -⟩
  iapply (Rounds.wp_wait_rest_token 𝒱₀ ER (Rd W) (c : Thread nD τ) none (κ := K (recvCell k c))
      (wpE_waitDma2_eq 𝒱₀ (c : Thread nD τ) none Set.univ) (Set.mem_univ _) () (O := owedN c n) (W := Wt) (R := 0) (m := 0) (T := ∅)
      ((Nat.zero_add _).trans ((credit_dst k).trans (expect_recv W k c).symm))) $$ [Hc HO Hat]
  · isplitr; · iexact HIr
    isplitl [Hc]; · rw [credit_dst]; iexact Hc
    isplitl [HO]; · iexact HO
    isplitr
    · iapply (perms_mayWait W K c n (.dma (recvS k)) fun k' hk' => by
        rw [lvS_recv]; have := rank_slot k'; omega)
      iexact HP
    iexact Hat
  iintro ⟨HO, Hat, -, Hpay⟩
  ihave Hd := (Entails.of_eq (rest_recv W k c)) $$ Hpay
  rw [wp_ret]
  imod (close W (K (recvCell k c)) (recvCell k c)) $$ [Hat] with Hv
  · isplitr; · iexact HIr
    iexact Hat
  imodintro
  iapply Hk
  unfold recvPay
  isplitl [Hv]; · iexact Hv
  isplitl [Hd]; · iexact Hd
  iexists _; iexact HO

theorem wp_doneK (c : Dev nD) (k : Ch) (h₁ : (dst k).view.WordExact) (h₂ : (src k).view.WordExact) (Kt : PUnit → sProp 𝕄) :
    iprop(perms W K c ∗ started k c ∗ owing c 30
        ∗ ((semVal (sendCell k c) 0 ∗ sPts k c (shr k) (scont W k c) ∗ owing c 30) -∗ Kt ⟨⟩))
      ⊢ wp frame (wpE (defs₀ (F := F)) 𝒱₀ c none) Set.univ (waitFor (sendS k) (dst k) (src k) h₁ h₂) Kt := by
  unfold started owing waitFor
  iintro ⟨#HP, ⟨Hc, Hat⟩, ⟨%Wt, HO⟩, Hk⟩
  ihave #HC := (perms_at W K c k) $$ HP
  unfold chPerm
  icases HC with ⟨#HIs, -, -, -, -⟩
  iapply (Rounds.wp_wait_rest_token 𝒱₀ ER (Rd W) (c : Thread nD τ) none (κ := K (sendCell k c))
      (wpE_waitDma2_eq 𝒱₀ (c : Thread nD τ) none Set.univ) (Set.mem_univ _) () (O := owedN c 30) (W := Wt) (R := 0) (m := 0) (T := ∅)
      ((Nat.zero_add _).trans ((credit_src k).trans (expect_send W k c).symm))) $$ [Hc HO Hat]
  · isplitr; · iexact HIs
    isplitl [Hc]; · rw [credit_src]; iexact Hc
    isplitl [HO]; · iexact HO
    isplitr
    · iapply (perms_mayWait W K c 30 (.dma (sendS k)) fun k' hk' => absurd hk' (by have := rank_lt k'; omega))
      iexact HP
    iexact Hat
  iintro ⟨HO, Hat, -, Hpay⟩
  ihave Hd := (Entails.of_eq (rest_send W k c)) $$ Hpay
  rw [wp_ret]
  imod (close W (K (sendCell k c)) (sendCell k c)) $$ [Hat] with Hv
  · isplitr; · iexact HIs
    iexact Hat
  imodintro
  iapply Hk
  unfold sendPay
  isplitl [Hv]; · iexact Hv
  isplitl [Hd]; · iexact Hd
  iexists _; iexact HO

end Cert.KernelIdeal.Hand

end
-- ==== Proof.Stages.lean ====
/-
  What one stage computes: the eight heads' contexts fill the context buffer, which is read back and set against the output
  weights; the result block is set (own chunk) or added to (a received chunk).
-/
module

public import proofs.«01_k».proof.Proof.Steps
public import Idealize.ShloMosaic.Lib.Writes
public import Idealize.ShloMosaic.Lib.Pipeline.Value

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## The context of a stage -/

theorem slicesAt (b : Fin 2) (h : Fin 4) : S512x256.Slices ![256 * b.val, 64 * h.val] S256x64 := by revert b h; decide

/-- Batch `b` and head `h`. -/
def headBH (q k v : FVec F S512x256 .bf16) (b : Fin 2) (h : Fin 4) : FVec F S256x64 .bf16 :=
  headAt ![256 * b.val, 64 * h.val] (slicesAt b h) q k v

/-- All heads side by side, the batches one above the other. -/
def ctxVal (q k v : FVec F S512x256 .bf16) : FVec F S512x256 .bf16 := fun i =>
  headBH q k v ⟨(i 0).val / 256, Nat.div_lt_of_lt_mul (i 0).isLt⟩ ⟨(i 1).val / 64, Nat.div_lt_of_lt_mul (i 1).isLt⟩
    (ix2 ⟨(i 0).val % 256, Nat.mod_lt _ (by decide)⟩ ⟨(i 1).val % 64, Nat.mod_lt _ (by decide)⟩)

theorem ctxVal_at (q k v : FVec F S512x256 .bf16) (b : Fin 2) (h : Fin 4) (z : S256x64.Idx) (i : S512x256.Idx)
    (h0 : (i 0).val = 256 * b.val + (z 0).val) (h1 : (i 1).val = 64 * h.val + (z 1).val) : headBH q k v b h z = ctxVal q k v i := by
  have z0 : (z 0).val < 256 := (z 0).isLt
  have z1 : (z 1).val < 64 := (z 1).isLt
  have eb : (⟨(i 0).val / 256, Nat.div_lt_of_lt_mul (i 0).isLt⟩ : Fin 2) = b := Fin.ext (by show (i 0).val / 256 = b.val; omega)
  have eh : (⟨(i 1).val / 64, Nat.div_lt_of_lt_mul (i 1).isLt⟩ : Fin 4) = h := Fin.ext (by show (i 1).val / 64 = h.val; omega)
  have ez : ix2 (⟨(i 0).val % 256, Nat.mod_lt _ (by decide)⟩ : Fin 256) (⟨(i 1).val % 64, Nat.mod_lt _ (by decide)⟩ : Fin 64) = z := by
    rw [eq_ix2 z]
    congr 1
    · exact Fin.ext (by show (i 0).val % 256 = (z 0).val; omega)
    · exact Fin.ext (by show (i 1).val % 64 = (z 1).val; omega)
  unfold ctxVal
  rw [eb, eh, ez]

/-- A stage's contribution to the result: its context against its output weights. -/
def contrib (x : FVec F S512x768 .bf16) (cs sn : FVec F S512x256 .f32) (p : FVec F S256x256 .bf16) (w : FVec F S3072x256 .bf16) : FVec F S512x768 .f32 :=
  outDot (woOf w) (ctxVal (qOf x cs sn p w) (kOf x cs sn p w) (vOf x w))

/-! ## The runs -/

abbrev xM : Memref sig .tc .vmem S512x768 .bf16 := Memref.whole cc0_stg0_0
abbrev pM : Memref sig .tc .vmem S256x256 .bf16 := Memref.whole cc0_stg2_0
abbrev csM : Memref sig .tc .vmem S512x256 .f32 := Memref.whole cc0_stg3_0
abbrev snM : Memref sig .tc .vmem S512x256 .f32 := Memref.whole cc0_stg4_0
abbrev oM : Memref sig .tc .vmem S512x768 .f32 := Memref.whole cc0_stg5_0

/-- A memref's whole buffer on device `c`. -/
abbrev buf {sp : Space} {s : Shape} {e : EltTy} (m : Memref sig .tc sp s e) (c : Dev nD) (q : PosShare TreeShare)
    (f : Buf (Elt F) (m.view.loc (c : Thread nD τ))) : sProp 𝕄 :=
  m.view.loc (c : Thread nD τ) ↦{q} f

theorem wp_putHead (c : Dev nD) (o : Fin 2 → Nat) (hi : ∀ a, o a + S256x64.size a ≤ S512x256.size a) (hs : S512x256.Slices o S256x64)
    (hp : (Rect.unit (s := S512x256) o S256x64.size hi).PackedRows (EltTy.packing .bf16)) (q k v : FVec F S512x256 .bf16)
    (f : Buf (Elt F) (cM.view.loc (c : Thread nD τ))) (Ls : List (View.Piece (Elt F) S512x256 .bf16)) (Kt : PUnit → sProp 𝕄) :
    iprop(buf cM c fullShare (cM.view.writes (Elt F) f Ls)
        ∗ (buf cM c fullShare (cM.view.writes (Elt F) f (⟨Rect.unit (s := S512x256) o S256x64.size hi, headAt o hs q k v⟩ :: Ls)) -∗ Kt ⟨⟩))
      ⊢ wp frame (wpE (defs₀ (F := F)) 𝒱₀ c none) Set.univ (putHead cM (Memref.isWhole_whole _) o hi hs hp q k v) Kt := by
  unfold putHead
  rw [wp_bind]
  iintro ⟨H, Hk⟩
  iapply (wp_load 𝒱₀ (c : Thread nD τ) none Set.univ (m := cM) (S := Finset.univ) (f := cM.view.writes (Elt F) f Ls) (Finset.subset_univ _)) $$ [H]
  · iexact H
  iintro H
  rw [wp_ret]
  imodintro
  iapply (wp_store_writes 𝒱₀ (c : Thread nD τ) none Set.univ (m := cM) (r := Rect.unit (s := S512x256) o S256x64.size hi) (w := headAt o hs q k v) (S := Finset.univ) (f := f) (L := Ls) (Finset.subset_univ _)) $$ [H]
  · iexact H
  iintro H
  rw [wp_ret]
  imodintro
  iapply Hk; iexact H

/-- The eight writes of a stage, the last first. -/
def headPieces (q k v : FVec F S512x256 .bf16) : List (View.Piece (Elt F) S512x256 .bf16) :=
  [⟨Rect.unit (s := S512x256) ![256, 192] S256x64.size inb_S512x256_S256x64_256_192, headAt ![256, 192] slices_S512x256_o256_192_S256x64 q k v⟩,
    ⟨Rect.unit (s := S512x256) ![256, 128] S256x64.size inb_S512x256_S256x64_256_128, headAt ![256, 128] slices_S512x256_o256_128_S256x64 q k v⟩,
    ⟨Rect.unit (s := S512x256) ![256, 64] S256x64.size inb_S512x256_S256x64_256_64, headAt ![256, 64] slices_S512x256_o256_64_S256x64 q k v⟩,
    ⟨Rect.unit (s := S512x256) ![256, 0] S256x64.size inb_S512x256_S256x64_256_0, headAt ![256, 0] slices_S512x256_o256_0_S256x64 q k v⟩,
    ⟨Rect.unit (s := S512x256) ![0, 192] S256x64.size inb_S512x256_S256x64_0_192, headAt ![0, 192] slices_S512x256_o0_192_S256x64 q k v⟩,
    ⟨Rect.unit (s := S512x256) ![0, 128] S256x64.size inb_S512x256_S256x64_0_128, headAt ![0, 128] slices_S512x256_o0_128_S256x64 q k v⟩,
    ⟨Rect.unit (s := S512x256) ![0, 64] S256x64.size inb_S512x256_S256x64_0_64, headAt ![0, 64] slices_S512x256_o0_64_S256x64 q k v⟩,
    ⟨Rect.unit (s := S512x256) ![0, 0] S256x64.size inb_S512x256_S256x64_0_0, headAt ![0, 0] slices_S512x256_o0_0_S256x64 q k v⟩]

theorem headPieces_agree (q k v : FVec F S512x256 .bf16) :
    ∀ p ∈ headPieces q k v, ∀ z : p.1.shape.Idx, p.2 z = ctxVal q k v (p.1.emb z) := by
  unfold headPieces
  simp only [List.forall_mem_cons, List.not_mem_nil, false_imp_iff, implies_true, and_true]
  refine ⟨?_, ?_, ?_, ?_, ?_, ?_, ?_, ?_⟩ <;> intro z
  · exact ctxVal_at q k v 1 3 z _ (congrArg (_ + ·) (one_mul _)) (congrArg (_ + ·) (one_mul _))
  · exact ctxVal_at q k v 1 2 z _ (congrArg (_ + ·) (one_mul _)) (congrArg (_ + ·) (one_mul _))
  · exact ctxVal_at q k v 1 1 z _ (congrArg (_ + ·) (one_mul _)) (congrArg (_ + ·) (one_mul _))
  · exact ctxVal_at q k v 1 0 z _ (congrArg (_ + ·) (one_mul _)) (congrArg (_ + ·) (one_mul _))
  · exact ctxVal_at q k v 0 3 z _ (congrArg (_ + ·) (one_mul _)) (congrArg (_ + ·) (one_mul _))
  · exact ctxVal_at q k v 0 2 z _ (congrArg (_ + ·) (one_mul _)) (congrArg (_ + ·) (one_mul _))
  · exact ctxVal_at q k v 0 1 z _ (congrArg (_ + ·) (one_mul _)) (congrArg (_ + ·) (one_mul _))
  · exact ctxVal_at q k v 0 0 z _ (congrArg (_ + ·) (one_mul _)) (congrArg (_ + ·) (one_mul _))

theorem headPieces_cover (q k v : FVec F S512x256 .bf16) : ∀ y : S512x256.Idx, ∃ p ∈ headPieces q k v, y ∈ p.1.set :=
  View.cover_of_tiled (headPieces q k v) S256x64.size rfl

theorem read_heads (q k v : FVec F S512x256 .bf16) (c : Dev nD) (f : Buf (Elt F) (cM.view.loc (c : Thread nD τ))) :
    cM.view.read (Elt F) (cM.view.writes (Elt F) f (headPieces q k v)) = ctxVal q k v :=
  funext fun y => View.read_writes_apply_of_pieces _ _ (ctxVal q k v) _ (headPieces_agree q k v) y (headPieces_cover q k v y)

/-- A load of everything reads everything. -/
theorem readAt_zero {sp : Space} {s : Shape} {e : EltTy} (m : Memref sig .tc sp s e) (o : Fin s.rank → ℕ) (ho : ∀ a, o a = 0)
    (inb : ∀ a, o a + s.size a ≤ s.size a) (f : m.view.ty.Contents (Elt F)) :
    m.view.readAt (Elt F) (Rect.unit (s := s) o s.size inb).toLoadRect f = m.view.read (Elt F) f := by
  funext y
  refine congrArg (m.view.read (Elt F) f) (funext fun a => Fin.ext ?_)
  show o a + 1 * (y a).val = (y a).val
  rw [ho a]; omega

/-- A store of everything leaves what is stored. -/
theorem writes_zero (b : Ref sig .tc) (o : Fin b.ty.shape.rank → ℕ) (ho : ∀ a, o a = 0)
    (inb : ∀ a, o a + b.ty.shape.size a ≤ b.ty.shape.size a) (f w : b.ty.Contents (Elt F)) :
    ((Memref.whole b : Memref sig .tc b.space b.ty.shape b.ty.elt).access (Rect.unit (s := b.ty.shape) o b.ty.shape.size inb)).write (Elt F) f w Finset.univ = w := by
  funext i
  have h := View.write_emb_of_mem (v := (Memref.whole b : Memref sig .tc b.space b.ty.shape b.ty.elt).access (Rect.unit (s := b.ty.shape) o b.ty.shape.size inb))
    (Val := Elt F) f w (M := Finset.univ) (x := i) (Finset.mem_univ _)
  have hi : ((Memref.whole b : Memref sig .tc b.space b.ty.shape b.ty.elt).access (Rect.unit (s := b.ty.shape) o b.ty.shape.size inb)).emb i = i := by
    funext a
    refine Fin.ext ?_
    show o a + 1 * (i a).val = (i a).val
    rw [ho a]; omega
  rw [hi] at h
  exact h

theorem zero2 (a : Fin 2) : (![0, 0] : Fin 2 → ℕ) a = 0 := by revert a; decide

theorem wp_heads (c : Dev nD) (q k v : FVec F S512x256 .bf16) (Kt : Vec F S512x256 .bf16 → sProp 𝕄) :
    iprop((∃ f, buf cM c fullShare f) ∗ ((∃ f, buf cM c fullShare f) -∗ Kt (ctxVal q k v)))
      ⊢ wp frame (wpE (defs₀ (F := F)) 𝒱₀ c none) Set.univ (heads cM (Memref.isWhole_whole _) q k v) Kt := by
  unfold heads
  simp only [wp_bind]
  iintro ⟨⟨%f, H⟩, Hk⟩
  ihave H := (Entails.of_eq (congrArg (buf cM c fullShare) (View.writes_nil (v := cM.view) (Val := Elt F) f).symm)) $$ H
  iapply (wp_putHead c ![0, 0] inb_S512x256_S256x64_0_0 slices_S512x256_o0_0_S256x64 packedbf16_S512x256_S256x64_0_0 q k v f _ _)
  isplitl [H]; · iexact H
  iintro H
  iapply (wp_putHead c ![0, 64] inb_S512x256_S256x64_0_64 slices_S512x256_o0_64_S256x64 packedbf16_S512x256_S256x64_0_64 q k v f _ _)
  isplitl [H]; · iexact H
  iintro H
  iapply (wp_putHead c ![0, 128] inb_S512x256_S256x64_0_128 slices_S512x256_o0_128_S256x64 packedbf16_S512x256_S256x64_0_128 q k v f _ _)
  isplitl [H]; · iexact H
  iintro H
  iapply (wp_putHead c ![0, 192] inb_S512x256_S256x64_0_192 slices_S512x256_o0_192_S256x64 packedbf16_S512x256_S256x64_0_192 q k v f _ _)
  isplitl [H]; · iexact H
  iintro H
  iapply (wp_putHead c ![256, 0] inb_S512x256_S256x64_256_0 slices_S512x256_o256_0_S256x64 packedbf16_S512x256_S256x64_256_0 q k v f _ _)
  isplitl [H]; · iexact H
  iintro H
  iapply (wp_putHead c ![256, 64] inb_S512x256_S256x64_256_64 slices_S512x256_o256_64_S256x64 packedbf16_S512x256_S256x64_256_64 q k v f _ _)
  isplitl [H]; · iexact H
  iintro H
  iapply (wp_putHead c ![256, 128] inb_S512x256_S256x64_256_128 slices_S512x256_o256_128_S256x64 packedbf16_S512x256_S256x64_256_128 q k v f _ _)
  isplitl [H]; · iexact H
  iintro H
  iapply (wp_putHead c ![256, 192] inb_S512x256_S256x64_256_192 slices_S512x256_o256_192_S256x64 packedbf16_S512x256_S256x64_256_192 q k v f _ _)
  isplitl [H]; · iexact H
  iintro H
  iapply (wp_load 𝒱₀ (c : Thread nD τ) none Set.univ (m := cM) (S := Finset.univ) (f := cM.view.writes (Elt F) f (headPieces q k v)) (Finset.subset_univ _)) $$ [H]
  · iexact H
  iintro H
  rw [wp_ret]
  imodintro
  rw [readAt_zero cM _ zero2, read_heads q k v c f]
  iapply Hk
  iexists _; iexact H

variable (x : FVec F S512x768 .bf16) (cs sn : FVec F S512x256 .f32) (p : FVec F S256x256 .bf16)

theorem readO (f : FVec F S512x768 .f32) :
    oM.view.readAt (Elt F) (Rect.unit (s := S512x768) ![0, 0] S512x768.size inb_S512x768_S512x768_0_0).toLoadRect f = f :=
  readAt_zero oM ![0, 0] zero2 inb_S512x768_S512x768_0_0 f
theorem readW (f : FVec F S3072x256 .bf16) :
    wM.view.readAt (Elt F) (Rect.unit (s := S3072x256) ![0, 0] S3072x256.size inb_S3072x256_S3072x256_0_0).toLoadRect f = f :=
  readAt_zero wM ![0, 0] zero2 inb_S3072x256_S3072x256_0_0 f

/-- Storing a whole result block. -/
theorem wp_storeO (c : Dev nD) (a v : FVec F S512x768 .f32) (o : Fin 2 → ℕ) (ho : ∀ a, o a = 0) (inb : ∀ a, o a + S512x768.size a ≤ S512x768.size a)
    (h₁ : (oM.access (Rect.unit (s := S512x768) o S512x768.size inb)).Stores Finset.univ)
    (h₂ : (Finset.univ : Finset (Rect.unit (s := S512x768) o S512x768.size inb).shape.Idx) = Finset.univ ∨ ∀ a, (Rect.unit (s := S512x768) o S512x768.size inb).stride a = 1)
    (Kt : PUnit → sProp 𝕄) :
    iprop(buf oM c fullShare a ∗ (buf oM c fullShare v -∗ Kt ⟨⟩))
      ⊢ wp frame (wpE (defs₀ (F := F)) 𝒱₀ c none) Set.univ
          (Prog.lift (.store oM (Rect.unit (s := S512x768) o S512x768.size inb) v Finset.univ h₁ h₂)) Kt := by
  have e : oM.view.writes (Elt F) a [⟨Rect.unit (s := S512x768) o S512x768.size inb, v⟩] = v := writes_zero cc0_stg5_0 o ho inb a v
  iintro ⟨Ho, Hk⟩
  have t := (wp_store_writes₀ (defs := defs₀ (F := F)) 𝒱₀ (c : Thread nD τ) none Set.univ (m := oM) (r := Rect.unit (s := S512x768) o S512x768.size inb) (hx := h₁) (hm := h₂) (k := .ret) (Q := Kt)
    (w := v) (S := Finset.univ) (f := a) (Finset.subset_univ _))
  iapply t $$ [Ho]
  · iexact Ho
  rw [e]
  iintro Ho
  rw [wp_ret]
  imodintro
  iapply Hk; iexact Ho
/-- Loading it. -/
theorem wp_loadO (c : Dev nD) (a : FVec F S512x768 .f32) (h₁) (Kt : FVec F S512x768 .f32 → sProp 𝕄) :
    iprop(buf oM c fullShare a ∗ (buf oM c fullShare a -∗ Kt a))
      ⊢ wp frame (wpE (defs₀ (F := F)) 𝒱₀ c none) Set.univ
          (Prog.lift (.load oM (Rect.unit (s := S512x768) ![0, 0] S512x768.size inb_S512x768_S512x768_0_0).toLoadRect h₁)) Kt := by
  iintro ⟨Ho, Hk⟩
  iapply (wp_load 𝒱₀ (c : Thread nD τ) none Set.univ (m := oM) (S := Finset.univ) (f := a) (Finset.subset_univ _)) $$ [Ho]
  · iexact Ho
  rw [readO]
  iintro Ho
  rw [wp_ret]
  imodintro
  iapply Hk; iexact Ho
theorem wp_loadW (c : Dev nD) (q : PosShare TreeShare) (w : FVec F S3072x256 .bf16) (h₁) (Kt : FVec F S3072x256 .bf16 → sProp 𝕄) :
    iprop(buf wM c q w ∗ (buf wM c q w -∗ Kt w))
      ⊢ wp frame (wpE (defs₀ (F := F)) 𝒱₀ c none) Set.univ
          (Prog.lift (.load wM (Rect.unit (s := S3072x256) ![0, 0] S3072x256.size inb_S3072x256_S3072x256_0_0).toLoadRect h₁)) Kt := by
  iintro ⟨Ho, Hk⟩
  iapply (wp_load 𝒱₀ (c : Thread nD τ) none Set.univ (m := wM) (S := Finset.univ) (f := w) (Finset.subset_univ _)) $$ [Ho]
  · iexact Ho
  rw [readW]
  iintro Ho
  rw [wp_ret]
  imodintro
  iapply Hk; iexact Ho

theorem wp_stageAdd (c : Dev nD) (w : FVec F S3072x256 .bf16) (a : FVec F S512x768 .f32) (Kt : PUnit → sProp 𝕄) :
    iprop((∃ f, buf cM c fullShare f) ∗ buf oM c fullShare a
        ∗ (((∃ f, buf cM c fullShare f) ∗ buf oM c fullShare (addf a (contrib x cs sn p w))) -∗ Kt ⟨⟩))
      ⊢ wp frame (wpE (defs₀ (F := F)) 𝒱₀ c none) Set.univ (stageAdd oM cM (Memref.isWhole_whole _) x cs sn p w) Kt := by
  unfold stageAdd stageCtx
  simp only [wp_bind]
  iintro ⟨Hc, Ho, Hk⟩
  iapply (wp_heads c (qOf x cs sn p w) (kOf x cs sn p w) (vOf x w) _)
  isplitl [Hc]; · iexact Hc
  iintro Hc
  iapply (wp_loadO c a)
  isplitl [Ho]; · iexact Ho
  iintro Ho
  iapply (wp_loadO c a)
  isplitl [Ho]; · iexact Ho
  iintro Ho
  rw [shapeCast_self]
  iapply (wp_storeO c a _ ![0, 0] zero2 inb_S512x768_S512x768_0_0)
  isplitl [Ho]; · iexact Ho
  iintro Ho
  iapply Hk
  isplitl [Hc]; · iexact Hc
  iexact Ho

theorem wp_stageOwn (c : Dev nD) (q : PosShare TreeShare) (w : FVec F S3072x256 .bf16) (Kt : PUnit → sProp 𝕄) :
    iprop(buf wM c q w ∗ (∃ f, buf cM c fullShare f) ∗ (∃ a, buf oM c fullShare a)
        ∗ ((buf wM c q w ∗ (∃ f, buf cM c fullShare f) ∗ buf oM c fullShare (contrib x cs sn p w)) -∗ Kt ⟨⟩))
      ⊢ wp frame (wpE (defs₀ (F := F)) 𝒱₀ c none) Set.univ (stageOwn wM oM cM (Memref.isWhole_whole _) x cs sn p) Kt := by
  unfold stageOwn stageCtx
  simp only [wp_bind]
  iintro ⟨Hw, Hc, ⟨%a, Ho⟩, Hk⟩
  iapply (wp_loadW c q w)
  isplitl [Hw]; · iexact Hw
  iintro Hw
  rw [shapeCast_self]
  iapply (wp_heads c (qOf x cs sn p w) (kOf x cs sn p w) (vOf x w) _)
  isplitl [Hc]; · iexact Hc
  iintro Hc
  iapply (wp_loadO c a)
  isplitl [Ho]; · iexact Ho
  iintro Ho
  iapply (wp_storeO c a _ ![0, 0] zero2 inb_S512x768_S512x768_0_0)
  isplitl [Ho]; · iexact Ho
  iintro Ho
  iapply Hk
  isplitl [Hw]; · iexact Hw
  isplitl [Hc]; · iexact Hc
  iexact Ho

/-! ## Slots -/

theorem set_halfR (j : Fin 8) (s : Bool) : (halfR gR j s).view.set = (Rect.unit (s := S8x3072x256) ![j.val, off s, 0] S1x1536x256.size (inbR j s)).set := by
  show (((View.whole cc0_scratch0).slice _).reshape _ _).set = _
  rw [View.set_reshape, View.set_slice_whole]
theorem set_halfL (j : Fin 7) (s : Bool) : (halfL gL j s).view.set = (Rect.unit (s := S7x3072x256) ![j.val, off s, 0] S1x1536x256.size (inbL j s)).set := by
  show (((View.whole cc0_scratch1).slice _).reshape _ _).set = _
  rw [View.set_reshape, View.set_slice_whole]

theorem mem_halfR (j : Fin 8) (s : Bool) (i : S8x3072x256.Idx) :
    i ∈ (halfR gR j s).view.set ↔ (i 0).val = j.val ∧ off s ≤ (i 1).val ∧ (i 1).val < off s + 1536 := by
  rw [set_halfR, Rect.mem_set_unit, Fin.forall_fin_succ, Fin.forall_fin_succ, Fin.forall_fin_one]
  have h2 : (i 2).val < 256 := (i 2).isLt
  constructor
  · rintro ⟨⟨h, h'⟩, ⟨h₁, h₁'⟩, -⟩
    refine ⟨?_, h₁, h₁'⟩
    have : (i 0).val < j.val + 1 := h'
    have : j.val ≤ (i 0).val := h
    omega
  · rintro ⟨h, h₁, h₁'⟩
    exact ⟨⟨h.ge, show (i 0).val < j.val + 1 by omega⟩, ⟨h₁, h₁'⟩, Nat.zero_le _, show (i 2).val < 0 + 256 by omega⟩
theorem mem_halfL (j : Fin 7) (s : Bool) (i : S7x3072x256.Idx) :
    i ∈ (halfL gL j s).view.set ↔ (i 0).val = j.val ∧ off s ≤ (i 1).val ∧ (i 1).val < off s + 1536 := by
  rw [set_halfL, Rect.mem_set_unit, Fin.forall_fin_succ, Fin.forall_fin_succ, Fin.forall_fin_one]
  have h2 : (i 2).val < 256 := (i 2).isLt
  constructor
  · rintro ⟨⟨h, h'⟩, ⟨h₁, h₁'⟩, -⟩
    refine ⟨?_, h₁, h₁'⟩
    have : (i 0).val < j.val + 1 := h'
    have : j.val ≤ (i 0).val := h
    omega
  · rintro ⟨h, h₁, h₁'⟩
    exact ⟨⟨h.ge, show (i 0).val < j.val + 1 by omega⟩, ⟨h₁, h₁'⟩, Nat.zero_le _, show (i 2).val < 0 + 256 by omega⟩

theorem halvesR_disjoint (j : Fin 8) : Disjoint (halfR gR j false).view.set (halfR gR j true).view.set := by
  refine Finset.disjoint_left.mpr fun i h h' => ?_
  have h := ((mem_halfR j false i).mp h).2.2
  have h' := ((mem_halfR j true i).mp h').2.1
  have h : (i 1).val < 0 + 1536 := h
  have h' : 1536 ≤ (i 1).val := h'
  omega
theorem halvesL_disjoint (j : Fin 7) : Disjoint (halfL gL j false).view.set (halfL gL j true).view.set := by
  refine Finset.disjoint_left.mpr fun i h h' => ?_
  have h := ((mem_halfL j false i).mp h).2.2
  have h' := ((mem_halfL j true i).mp h').2.1
  have h : (i 1).val < 0 + 1536 := h
  have h' : 1536 ≤ (i 1).val := h'
  omega

abbrev slotRectR (j : Fin 8) : Rect S8x3072x256 := Rect.unit (s := S8x3072x256) ![j.val, 0, 0] S1x3072x256.size (inbCR j)
abbrev slotRectL (j : Fin 7) : Rect S7x3072x256 := Rect.unit (s := S7x3072x256) ![j.val, 0, 0] S1x3072x256.size (inbCL j)

theorem slotR_cover (j : Fin 8) : (gR.access (slotRectR j)).set ⊆ (halfR gR j false).view.set ∪ (halfR gR j true).view.set := by
  intro i hi
  have hi : i ∈ (slotRectR j).set := by
    rw [show (gR.access (slotRectR j)).set = (slotRectR j).set from View.set_slice_whole cc0_scratch0 _] at hi; exact hi
  rw [Rect.mem_set_unit] at hi
  have h0 : j.val ≤ (i 0).val := (hi 0).1
  have h0' : (i 0).val < j.val + 1 := (hi 0).2
  have h1 : (i 1).val < 3072 := (i 1).isLt
  rw [Finset.mem_union, mem_halfR, mem_halfR]
  by_cases h : (i 1).val < 1536
  · exact .inl ⟨by omega, Nat.zero_le _, show (i 1).val < 0 + 1536 by omega⟩
  · exact .inr ⟨by omega, show 1536 ≤ (i 1).val by omega, show (i 1).val < 1536 + 1536 by omega⟩
theorem slotL_cover (j : Fin 7) : (gL.access (slotRectL j)).set ⊆ (halfL gL j false).view.set ∪ (halfL gL j true).view.set := by
  intro i hi
  have hi : i ∈ (slotRectL j).set := by
    rw [show (gL.access (slotRectL j)).set = (slotRectL j).set from View.set_slice_whole cc0_scratch1 _] at hi; exact hi
  rw [Rect.mem_set_unit] at hi
  have h0 : j.val ≤ (i 0).val := (hi 0).1
  have h0' : (i 0).val < j.val + 1 := (hi 0).2
  have h1 : (i 1).val < 3072 := (i 1).isLt
  rw [Finset.mem_union, mem_halfL, mem_halfL]
  by_cases h : (i 1).val < 1536
  · exact .inl ⟨by omega, Nat.zero_le _, show (i 1).val < 0 + 1536 by omega⟩
  · exact .inr ⟨by omega, show 1536 ≤ (i 1).val by omega, show (i 1).val < 1536 + 1536 by omega⟩

variable (W : Own F)

/-- A received slot, loaded, is the chunk of the device it came from. -/
theorem readSlotR (j : Fin 8) (c : Dev nD) :
    shapeCast S3072x256 ((gR.access (slotRectR j)).read (Elt F) (GR W c)) shapeCasts_S1x3072x256_S3072x256 = W (prv^[j.val + 1] c) := by
  funext i
  rw [eq_ix2 i]
  refine (shapeCast_1ab_ab_apply _ shapeCasts_S1x3072x256_S3072x256 (i 0) (i 1)).trans ?_
  show W (prv^[(j.val + 1 * 0) + 1] c) (ix2 _ _) = _
  refine own_congr W (by rw [Nat.mul_zero, Nat.add_zero]) ?_ ?_
  · show 0 + 1 * (i 0).val = (i 0).val; omega
  · show 0 + 1 * (i 1).val = (i 1).val; omega
theorem readSlotL (j : Fin 7) (c : Dev nD) :
    shapeCast S3072x256 ((gL.access (slotRectL j)).read (Elt F) (GL W c)) shapeCasts_S1x3072x256_S3072x256 = W (nxt^[j.val + 1] c) := by
  funext i
  rw [eq_ix2 i]
  refine (shapeCast_1ab_ab_apply _ shapeCasts_S1x3072x256_S3072x256 (i 0) (i 1)).trans ?_
  show W (nxt^[(j.val + 1 * 0) + 1] c) (ix2 _ _) = _
  refine own_congr W (by rw [Nat.mul_zero, Nat.add_zero]) ?_ ?_
  · show 0 + 1 * (i 0).val = (i 0).val; omega
  · show 0 + 1 * (i 1).val = (i 1).val; omega

/-- Both halves of a received slot, at a share. -/
def slotR (j : Fin 8) (c : Dev nD) (q : PosShare TreeShare) : sProp 𝕄 := iprop(dPts (.inl (j, false)) c q (GR W c) ∗ dPts (.inl (j, true)) c q (GR W c))
def slotL (j : Fin 7) (c : Dev nD) (q : PosShare TreeShare) : sProp 𝕄 := iprop(dPts (.inr (j, false)) c q (GL W c) ∗ dPts (.inr (j, true)) c q (GL W c))

theorem joinR (j : Fin 8) (c : Dev nD) (q : PosShare TreeShare) (f : Buf (Elt F) (gR.view.loc (c : Thread nD τ))) :
    (gR.view.loc (c : Thread nD τ) ↦[(halfR gR j false).view.set ∪ (halfR gR j true).view.set]{q} f : sProp 𝕄)
      ⊣⊢ iprop(dPts (.inl (j, false)) c q f ∗ dPts (.inl (j, true)) c q f) := pointsTo_union (halvesR_disjoint j)
theorem joinL (j : Fin 7) (c : Dev nD) (q : PosShare TreeShare) (f : Buf (Elt F) (gL.view.loc (c : Thread nD τ))) :
    (gL.view.loc (c : Thread nD τ) ↦[(halfL gL j false).view.set ∪ (halfL gL j true).view.set]{q} f : sProp 𝕄)
      ⊣⊢ iprop(dPts (.inr (j, false)) c q f ∗ dPts (.inr (j, true)) c q f) := pointsTo_union (halvesL_disjoint j)

theorem wp_stageR (j : Fin 8) (c : Dev nD) (q : PosShare TreeShare) (a : FVec F S512x768 .f32) (Kt : PUnit → sProp 𝕄) :
    iprop(slotR W j c q ∗ (∃ f, buf cM c fullShare f) ∗ buf oM c fullShare a
        ∗ ((slotR W j c q ∗ (∃ f, buf cM c fullShare f) ∗ buf oM c fullShare (addf a (contrib x cs sn p (W (prv^[j.val + 1] c))))) -∗ Kt ⟨⟩))
      ⊢ wp frame (wpE (defs₀ (F := F)) 𝒱₀ c none) Set.univ (stageR oM gR cM (Memref.isWhole_whole _) x cs sn p j) Kt := by
  unfold stageR slotR
  rw [wp_bind]
  iintro ⟨⟨H0, H1⟩, Hc, Ho, Hk⟩
  ihave H := (joinR j c q (GR W c)).2 $$ [H0 H1]
  · isplitl [H0]; · iexact H0
    iexact H1
  iapply (wp_load_rect 𝒱₀ (c : Thread nD τ) none Set.univ (m := gR) (r := slotRectR j) (f := GR W c) (slotR_cover j)) $$ [H]
  · iexact H
  iintro H
  rw [wp_ret]
  imodintro
  rw [readSlotR W j c]
  iapply (wp_stageAdd x cs sn p c (W (prv^[j.val + 1] c)) a Kt)
  isplitl [Hc]; · iexact Hc
  isplitl [Ho]; · iexact Ho
  iintro ⟨Hc, Ho⟩
  iapply Hk
  isplitl [H]
  · iapply (joinR j c q (GR W c)).1; iexact H
  isplitl [Hc]; · iexact Hc
  iexact Ho

theorem wp_stageL (j : Fin 7) (c : Dev nD) (q : PosShare TreeShare) (a : FVec F S512x768 .f32) (Kt : PUnit → sProp 𝕄) :
    iprop(slotL W j c q ∗ (∃ f, buf cM c fullShare f) ∗ buf oM c fullShare a
        ∗ ((slotL W j c q ∗ (∃ f, buf cM c fullShare f) ∗ buf oM c fullShare (addf a (contrib x cs sn p (W (nxt^[j.val + 1] c))))) -∗ Kt ⟨⟩))
      ⊢ wp frame (wpE (defs₀ (F := F)) 𝒱₀ c none) Set.univ (stageL oM gL cM (Memref.isWhole_whole _) x cs sn p j) Kt := by
  unfold stageL slotL
  rw [wp_bind]
  iintro ⟨⟨H0, H1⟩, Hc, Ho, Hk⟩
  ihave H := (joinL j c q (GL W c)).2 $$ [H0 H1]
  · isplitl [H0]; · iexact H0
    iexact H1
  iapply (wp_load_rect 𝒱₀ (c : Thread nD τ) none Set.univ (m := gL) (r := slotRectL j) (f := GL W c) (slotL_cover j)) $$ [H]
  · iexact H
  iintro H
  rw [wp_ret]
  imodintro
  rw [readSlotL W j c]
  iapply (wp_stageAdd x cs sn p c (W (nxt^[j.val + 1] c)) a Kt)
  isplitl [Hc]; · iexact Hc
  isplitl [Ho]; · iexact Ho
  iintro ⟨Hc, Ho⟩
  iapply Hk
  isplitl [H]
  · iapply (joinL j c q (GL W c)).1; iexact H
  isplitl [Hc]; · iexact Hc
  iexact Ho

end Cert.KernelIdeal.Hand

end
-- ==== Proof.Hops.lean ====
/-
  The run of one step of the ring: both halves received from each side, sent on, and the two received chunks computed with;
  and the run of one hop's waits for the sent copies to have left.
-/
module

public import proofs.«01_k».proof.Proof.Stages

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Both halves of one slot of a side. -/
def bothR (Φ : Ch → sProp 𝕄) (j : Fin 8) : sProp 𝕄 := iprop(Φ (.inl (j, false)) ∗ Φ (.inl (j, true)))
def bothL (Φ : Ch → sProp 𝕄) (j : Fin 7) : sProp 𝕄 := iprop(Φ (.inr (j, false)) ∗ Φ (.inr (j, true)))
/-- One hop: slot `i` of both sides. -/
def hop (Φ : Ch → sProp 𝕄) (i : Fin 7) : sProp 𝕄 := iprop(bothR Φ i.castSucc ∗ bothL Φ i)

theorem star_assoc (P Q R : sProp 𝕄) : iprop((P ∗ Q) ∗ R) = iprop(P ∗ Q ∗ R) := equiv_iff.mp ⟨BI.sep_assoc, BI.sep_assoc'⟩

/-- All transfers, hop by hop. -/
theorem hops_eq (Φ : Ch → sProp 𝕄) : bigSep Finset.univ Φ
    = iprop(hop Φ 0 ∗ hop Φ 1 ∗ hop Φ 2 ∗ hop Φ 3 ∗ hop Φ 4 ∗ hop Φ 5 ∗ hop Φ 6 ∗ bothR Φ 7) := by
  rw [bigSep_univ_eq_bigSepL
    [.inl (0, false), .inl (0, true), .inr (0, false), .inr (0, true), .inl (1, false), .inl (1, true), .inr (1, false), .inr (1, true),
     .inl (2, false), .inl (2, true), .inr (2, false), .inr (2, true), .inl (3, false), .inl (3, true), .inr (3, false), .inr (3, true),
     .inl (4, false), .inl (4, true), .inr (4, false), .inr (4, true), .inl (5, false), .inl (5, true), .inr (5, false), .inr (5, true),
     .inl (6, false), .inl (6, true), .inr (6, false), .inr (6, true), .inl (7, false), .inl (7, true)] (by decide) (by decide)]
  simp only [bigSepL_cons_cons, bigSepL_singleton]
  unfold hop bothR bothL
  simp only [star_assoc]
  rfl

variable (W : Own F) (K : GSem nD τ sig → ℕ)

/-- What starting transfer `k` spends. -/
def ready (k : Ch) (c : Dev nD) : sProp 𝕄 := iprop(toStart k c ∗ slotFor k c)
/-- The share transfer `k` reads its source at. -/
def srcAt (k : Ch) (c : Dev nD) : sProp 𝕄 := sPts k c (shr k) (scont W k c)
/-- The two counters, back at zero. -/
def recvd (k : Ch) (c : Dev nD) : sProp 𝕄 := semVal (recvCell k c) 0
def sent (k : Ch) (c : Dev nD) : sProp 𝕄 := semVal (sendCell k c) 0

abbrev bothFR (Φ : Ch → Dev nD → sProp 𝕄) (j : Fin 8) (c : Dev nD) : sProp 𝕄 := bothR (fun k => Φ k c) j
abbrev bothFL (Φ : Ch → Dev nD → sProp 𝕄) (j : Fin 7) (c : Dev nD) : sProp 𝕄 := bothL (fun k => Φ k c) j
abbrev hopF (Φ : Ch → Dev nD → sProp 𝕄) (i : Fin 7) (c : Dev nD) : sProp 𝕄 := hop (fun k => Φ k c) i

theorem rank_geR (j : ℕ) (hj : j + 1 < 8) : 4 * (j + 1) ≤ rank (.inl (⟨j + 1, hj⟩, false)) := Nat.le_refl _
theorem rank_geL (j : ℕ) (hj : j + 1 < 7) : 4 * (j + 1) ≤ rank (.inr (⟨j + 1, hj⟩, false)) := Nat.le_add_right _ 2

theorem wp_startR (c : Dev nD) (j : Fin 8) (s : Bool) (r r' : ℕ) (hr : rank (.inl (j, s)) = r) (hr' : r + 1 = r') (n : Dev nD) (hn : n = tgt (.inl (j, s)) c) (Kt : PUnit → sProp 𝕄) :
    iprop(perms W K c ∗ ready (.inl (j, s)) c ∗ srcAt W (.inl (j, s)) c ∗ owing c r ∗ ((started (.inl (j, s)) c ∗ owing c r') -∗ Kt ⟨⟩))
      ⊢ wp frame (wpE (defs₀ (F := F)) 𝒱₀ c none) Set.univ (startR wM (Memref.isWhole_whole _) gR (Memref.isWhole_whole _) cc0_scratch3 cc0_scratch4 j s n) Kt := by
  subst hr'; subst hr
  unfold ready srcAt
  rw [star_assoc]
  exact wp_startK W K c (.inl (j, s)) n hn _ _ Kt

theorem wp_recvR (c : Dev nD) (j : Fin 8) (s : Bool) (n : ℕ) (hn : 4 * (j.val + 1) ≤ n) (Kt : PUnit → sProp 𝕄) :
    iprop(perms W K c ∗ toRecv (.inl (j, s)) c ∗ owing c n
        ∗ ((recvd (.inl (j, s)) c ∗ dPts (.inl (j, s)) c fullShare (GR W c) ∗ owing c n) -∗ Kt ⟨⟩))
      ⊢ wp frame (wpE (defs₀ (F := F)) 𝒱₀ c none) Set.univ (recvR wM (Memref.isWhole_whole _) gR (Memref.isWhole_whole _) cc0_scratch4 j s) Kt :=
  wp_recvK W K c (.inl (j, s)) n hn _ _ Kt

theorem wp_doneR (c : Dev nD) (j : Fin 8) (s : Bool) (Kt : PUnit → sProp 𝕄) :
    iprop(perms W K c ∗ started (.inl (j, s)) c ∗ owing c 30
        ∗ ((sent (.inl (j, s)) c ∗ srcAt W (.inl (j, s)) c ∗ owing c 30) -∗ Kt ⟨⟩))
      ⊢ wp frame (wpE (defs₀ (F := F)) 𝒱₀ c none) Set.univ (doneR wM (Memref.isWhole_whole _) gR (Memref.isWhole_whole _) cc0_scratch3 j s) Kt :=
  wp_doneK W K c (.inl (j, s)) _ _ Kt

/-- A landed half at both half shares: one for the copy onwards, one for the loads. -/
theorem shareR (c : Dev nD) (j : ℕ) (hj : j + 1 < 8) (s : Bool) :
    dPts (.inl (⟨j, Nat.lt_of_succ_lt hj⟩, s)) c fullShare (GR W c)
      ⊣⊢ iprop(srcAt W (.inl (⟨j + 1, hj⟩, s)) c ∗ dPts (.inl (⟨j, Nat.lt_of_succ_lt hj⟩, s)) c fullShare.right (GR W c)) :=
  pointsTo_share (PosShare.mem_left_op_right fullShare)

theorem wp_stepR (c : Dev nD) (j : ℕ) (hj : j + 1 < 8) (a b : Dev nD) (ha : a = tgt (.inl (⟨j + 1, hj⟩, false)) c) (hb : b = tgt (.inl (⟨j + 1, hj⟩, true)) c)
    (r r₁ r₂ : ℕ) (hr : rank (.inl (⟨j + 1, hj⟩, false)) = r) (hr₁ : r + 1 = r₁) (hr₂ : r₁ + 1 = r₂) (Kt : PUnit → sProp 𝕄) :
    iprop(perms W K c ∗ bothFR toRecv ⟨j, Nat.lt_of_succ_lt hj⟩ c ∗ bothFR ready ⟨j + 1, hj⟩ c ∗ owing c r
        ∗ ((bothFR recvd ⟨j, Nat.lt_of_succ_lt hj⟩ c ∗ slotR W ⟨j, Nat.lt_of_succ_lt hj⟩ c fullShare.right ∗ bothFR started ⟨j + 1, hj⟩ c ∗ owing c r₂) -∗ Kt ⟨⟩))
      ⊢ wp frame (wpE (defs₀ (F := F)) 𝒱₀ c none) Set.univ
          (stepR wM (Memref.isWhole_whole _) gR (Memref.isWhole_whole _) cc0_scratch3 cc0_scratch4 ⟨j, Nat.lt_of_succ_lt hj⟩ ⟨j + 1, hj⟩ a b) Kt := by
  have hle : 4 * (j + 1) ≤ r := by rw [← hr]; exact rank_geR j hj
  unfold stepR bothFR bothR slotR
  simp only [wp_bind]
  iintro ⟨#HP, ⟨Hr0, Hr1⟩, ⟨Hs0, Hs1⟩, HO, Hk⟩
  iapply (wp_recvR W K c ⟨j, Nat.lt_of_succ_lt hj⟩ false r hle)
  isplitr; · iexact HP
  isplitl [Hr0]; · iexact Hr0
  isplitl [HO]; · iexact HO
  iintro ⟨Hv0, Hd0, HO⟩
  ihave Hd0 := (shareR W c j hj false).1 $$ Hd0
  icases Hd0 with ⟨Hc0, Hd0⟩
  iapply (wp_startR W K c ⟨j + 1, hj⟩ false r r₁ hr hr₁ a ha)
  isplitr; · iexact HP
  isplitl [Hs0]; · iexact Hs0
  isplitl [Hc0]; · iexact Hc0
  isplitl [HO]; · iexact HO
  iintro ⟨Hs0, HO⟩
  iapply (wp_recvR W K c ⟨j, Nat.lt_of_succ_lt hj⟩ true r₁ (show 4 * (j + 1) ≤ r₁ by omega))
  isplitr; · iexact HP
  isplitl [Hr1]; · iexact Hr1
  isplitl [HO]; · iexact HO
  iintro ⟨Hv1, Hd1, HO⟩
  ihave Hd1 := (shareR W c j hj true).1 $$ Hd1
  icases Hd1 with ⟨Hc1, Hd1⟩
  iapply (wp_startR W K c ⟨j + 1, hj⟩ true r₁ r₂ (by rw [← hr₁, ← hr]; rfl) hr₂ b hb)
  isplitr; · iexact HP
  isplitl [Hs1]; · iexact Hs1
  isplitl [Hc1]; · iexact Hc1
  isplitl [HO]; · iexact HO
  iintro ⟨Hs1, HO⟩
  iapply Hk
  isplitl [Hv0 Hv1]
  · isplitl [Hv0]; · iexact Hv0
    iexact Hv1
  isplitl [Hd0 Hd1]
  · isplitl [Hd0]; · iexact Hd0
    iexact Hd1
  isplitl [Hs0 Hs1]
  · isplitl [Hs0]; · iexact Hs0
    iexact Hs1
  iexact HO

theorem wp_startL (c : Dev nD) (j : Fin 7) (s : Bool) (r r' : ℕ) (hr : rank (.inr (j, s)) = r) (hr' : r + 1 = r') (n : Dev nD) (hn : n = tgt (.inr (j, s)) c) (Kt : PUnit → sProp 𝕄) :
    iprop(perms W K c ∗ ready (.inr (j, s)) c ∗ srcAt W (.inr (j, s)) c ∗ owing c r ∗ ((started (.inr (j, s)) c ∗ owing c r') -∗ Kt ⟨⟩))
      ⊢ wp frame (wpE (defs₀ (F := F)) 𝒱₀ c none) Set.univ (startL wM (Memref.isWhole_whole _) gL (Memref.isWhole_whole _) cc0_scratch5 cc0_scratch6 j s n) Kt := by
  subst hr'; subst hr
  unfold ready srcAt
  rw [star_assoc]
  exact wp_startK W K c (.inr (j, s)) n hn _ _ Kt

theorem wp_recvL (c : Dev nD) (j : Fin 7) (s : Bool) (n : ℕ) (hn : 4 * (j.val + 1) ≤ n) (Kt : PUnit → sProp 𝕄) :
    iprop(perms W K c ∗ toRecv (.inr (j, s)) c ∗ owing c n
        ∗ ((recvd (.inr (j, s)) c ∗ dPts (.inr (j, s)) c fullShare (GL W c) ∗ owing c n) -∗ Kt ⟨⟩))
      ⊢ wp frame (wpE (defs₀ (F := F)) 𝒱₀ c none) Set.univ (recvL wM (Memref.isWhole_whole _) gL (Memref.isWhole_whole _) cc0_scratch6 j s) Kt :=
  wp_recvK W K c (.inr (j, s)) n hn _ _ Kt

theorem wp_doneL (c : Dev nD) (j : Fin 7) (s : Bool) (Kt : PUnit → sProp 𝕄) :
    iprop(perms W K c ∗ started (.inr (j, s)) c ∗ owing c 30
        ∗ ((sent (.inr (j, s)) c ∗ srcAt W (.inr (j, s)) c ∗ owing c 30) -∗ Kt ⟨⟩))
      ⊢ wp frame (wpE (defs₀ (F := F)) 𝒱₀ c none) Set.univ (doneL wM (Memref.isWhole_whole _) gL (Memref.isWhole_whole _) cc0_scratch5 j s) Kt :=
  wp_doneK W K c (.inr (j, s)) _ _ Kt

/-- A landed half at both half shares: one for the copy onwards, one for the loads. -/
theorem shareL (c : Dev nD) (j : ℕ) (hj : j + 1 < 7) (s : Bool) :
    dPts (.inr (⟨j, Nat.lt_of_succ_lt hj⟩, s)) c fullShare (GL W c)
      ⊣⊢ iprop(srcAt W (.inr (⟨j + 1, hj⟩, s)) c ∗ dPts (.inr (⟨j, Nat.lt_of_succ_lt hj⟩, s)) c fullShare.right (GL W c)) :=
  pointsTo_share (PosShare.mem_left_op_right fullShare)

theorem wp_stepL (c : Dev nD) (j : ℕ) (hj : j + 1 < 7) (a b : Dev nD) (ha : a = tgt (.inr (⟨j + 1, hj⟩, false)) c) (hb : b = tgt (.inr (⟨j + 1, hj⟩, true)) c)
    (r r₁ r₂ : ℕ) (hr : rank (.inr (⟨j + 1, hj⟩, false)) = r) (hr₁ : r + 1 = r₁) (hr₂ : r₁ + 1 = r₂) (Kt : PUnit → sProp 𝕄) :
    iprop(perms W K c ∗ bothFL toRecv ⟨j, Nat.lt_of_succ_lt hj⟩ c ∗ bothFL ready ⟨j + 1, hj⟩ c ∗ owing c r
        ∗ ((bothFL recvd ⟨j, Nat.lt_of_succ_lt hj⟩ c ∗ slotL W ⟨j, Nat.lt_of_succ_lt hj⟩ c fullShare.right ∗ bothFL started ⟨j + 1, hj⟩ c ∗ owing c r₂) -∗ Kt ⟨⟩))
      ⊢ wp frame (wpE (defs₀ (F := F)) 𝒱₀ c none) Set.univ
          (stepL wM (Memref.isWhole_whole _) gL (Memref.isWhole_whole _) cc0_scratch5 cc0_scratch6 ⟨j, Nat.lt_of_succ_lt hj⟩ ⟨j + 1, hj⟩ a b) Kt := by
  have hle : 4 * (j + 1) ≤ r := by rw [← hr]; exact rank_geL j hj
  unfold stepL bothFL bothL slotL
  simp only [wp_bind]
  iintro ⟨#HP, ⟨Hr0, Hr1⟩, ⟨Hs0, Hs1⟩, HO, Hk⟩
  iapply (wp_recvL W K c ⟨j, Nat.lt_of_succ_lt hj⟩ false r hle)
  isplitr; · iexact HP
  isplitl [Hr0]; · iexact Hr0
  isplitl [HO]; · iexact HO
  iintro ⟨Hv0, Hd0, HO⟩
  ihave Hd0 := (shareL W c j hj false).1 $$ Hd0
  icases Hd0 with ⟨Hc0, Hd0⟩
  iapply (wp_startL W K c ⟨j + 1, hj⟩ false r r₁ hr hr₁ a ha)
  isplitr; · iexact HP
  isplitl [Hs0]; · iexact Hs0
  isplitl [Hc0]; · iexact Hc0
  isplitl [HO]; · iexact HO
  iintro ⟨Hs0, HO⟩
  iapply (wp_recvL W K c ⟨j, Nat.lt_of_succ_lt hj⟩ true r₁ (show 4 * (j + 1) ≤ r₁ by omega))
  isplitr; · iexact HP
  isplitl [Hr1]; · iexact Hr1
  isplitl [HO]; · iexact HO
  iintro ⟨Hv1, Hd1, HO⟩
  ihave Hd1 := (shareL W c j hj true).1 $$ Hd1
  icases Hd1 with ⟨Hc1, Hd1⟩
  iapply (wp_startL W K c ⟨j + 1, hj⟩ true r₁ r₂ (by rw [← hr₁, ← hr]; rfl) hr₂ b hb)
  isplitr; · iexact HP
  isplitl [Hs1]; · iexact Hs1
  isplitl [Hc1]; · iexact Hc1
  isplitl [HO]; · iexact HO
  iintro ⟨Hs1, HO⟩
  iapply Hk
  isplitl [Hv0 Hv1]
  · isplitl [Hv0]; · iexact Hv0
    iexact Hv1
  isplitl [Hd0 Hd1]
  · isplitl [Hd0]; · iexact Hd0
    iexact Hd1
  isplitl [Hs0 Hs1]
  · isplitl [Hs0]; · iexact Hs0
    iexact Hs1
  iexact HO

variable (x : FVec F S512x768 .bf16) (cs sn : FVec F S512x256 .f32) (p : FVec F S256x256 .bf16)

/-- What a received chunk adds to the result. -/
abbrev con (d : Dev nD) : FVec F S512x768 .f32 := contrib x cs sn p (W d)

/-- What a step takes from hop `i`: both slots' halves at the loads' share, the landing counters at zero. -/
def got (i : Fin 7) (c : Dev nD) : sProp 𝕄 :=
  iprop(hopF recvd i c ∗ slotR W i.castSucc c fullShare.right ∗ slotL W i c fullShare.right)

theorem wp_midStep (c : Dev nD) (i : ℕ) (hi : i + 1 < 7) (d₁ d₂ d₃ d₄ : Dev nD) (h₁ : d₁ = nxt c) (h₂ : d₂ = nxt c) (h₃ : d₃ = prv c) (h₄ : d₄ = prv c)
    (acc : FVec F S512x768 .f32) (Kt : PUnit → sProp 𝕄) :
    iprop(perms W K c ∗ hopF toRecv ⟨i, Nat.lt_of_succ_lt hi⟩ c ∗ hopF ready ⟨i + 1, hi⟩ c ∗ owing c (4 * (i + 1))
        ∗ (∃ f, buf cM c fullShare f) ∗ buf oM c fullShare acc
        ∗ ((got W ⟨i, Nat.lt_of_succ_lt hi⟩ c ∗ hopF started ⟨i + 1, hi⟩ c ∗ owing c (4 * (i + 1) + 4)
            ∗ (∃ f, buf cM c fullShare f) ∗ buf oM c fullShare (addf (addf acc (con W x cs sn p (nxt^[i + 1] c))) (con W x cs sn p (prv^[i + 1] c)))) -∗ Kt ⟨⟩))
      ⊢ wp frame (wpE (defs₀ (F := F)) 𝒱₀ c none) Set.univ
          (midStep wM (Memref.isWhole_whole _) oM gR (Memref.isWhole_whole _) gL (Memref.isWhole_whole _) cM (Memref.isWhole_whole _)
            cc0_scratch3 cc0_scratch4 cc0_scratch5 cc0_scratch6 x cs sn p ⟨i, Nat.lt_of_succ_lt hi⟩ ⟨i + 1, hi⟩ d₁ d₂ d₃ d₄) Kt := by
  unfold midStep got hopF hop
  simp only [wp_bind]
  iintro ⟨#HP, ⟨HrR, HrL⟩, ⟨HsR, HsL⟩, HO, Hc, Ho, Hk⟩
  iapply (wp_stepR W K c i (by omega) d₁ d₂ h₁ h₂ (4 * (i + 1)) (4 * (i + 1) + 1) (4 * (i + 1) + 2) rfl rfl rfl)
  isplitr; · iexact HP
  isplitl [HrR]; · iexact HrR
  isplitl [HsR]; · iexact HsR
  isplitl [HO]; · iexact HO
  iintro ⟨HvR, HdR, HsR, HO⟩
  iapply (wp_stepL W K c i hi d₃ d₄ h₃ h₄ (4 * (i + 1) + 2) (4 * (i + 1) + 3) (4 * (i + 1) + 4) rfl rfl rfl)
  isplitr; · iexact HP
  isplitl [HrL]; · iexact HrL
  isplitl [HsL]; · iexact HsL
  isplitl [HO]; · iexact HO
  iintro ⟨HvL, HdL, HsL, HO⟩
  iapply (wp_stageL x cs sn p W ⟨i, Nat.lt_of_succ_lt hi⟩ c fullShare.right acc)
  isplitl [HdL]; · iexact HdL
  isplitl [Hc]; · iexact Hc
  isplitl [Ho]; · iexact Ho
  iintro ⟨HdL, Hc, Ho⟩
  iapply (wp_stageR x cs sn p W (Fin.castSucc ⟨i, Nat.lt_of_succ_lt hi⟩) c fullShare.right _)
  isplitl [HdR]; · iexact HdR
  isplitl [Hc]; · iexact Hc
  isplitl [Ho]; · iexact Ho
  iintro ⟨HdR, Hc, Ho⟩
  iapply Hk
  isplitl [HvR HvL HdR HdL]
  · isplitl [HvR HvL]
    · isplitl [HvR]; · iexact HvR
      iexact HvL
    isplitl [HdR]; · iexact HdR
    iexact HdL
  isplitl [HsR HsL]
  · isplitl [HsR]; · iexact HsR
    iexact HsL
  isplitl [HO]; · iexact HO
  isplitl [Hc]; · iexact Hc
  iexact Ho

theorem wp_donePair (c : Dev nD) (i : Fin 7) (Kt : PUnit → sProp 𝕄) :
    iprop(perms W K c ∗ hopF started i c ∗ owing c 30 ∗ ((hopF sent i c ∗ hopF (srcAt W) i c ∗ owing c 30) -∗ Kt ⟨⟩))
      ⊢ wp frame (wpE (defs₀ (F := F)) 𝒱₀ c none) Set.univ
          (donePair wM (Memref.isWhole_whole _) gR (Memref.isWhole_whole _) gL (Memref.isWhole_whole _) cc0_scratch3 cc0_scratch5 i) Kt := by
  unfold donePair hopF hop bothR bothL
  simp only [wp_bind]
  iintro ⟨#HP, ⟨⟨H1, H2⟩, ⟨H3, H4⟩⟩, HO, Hk⟩
  iapply (wp_doneR W K c i.castSucc false)
  isplitr; · iexact HP
  isplitl [H1]; · iexact H1
  isplitl [HO]; · iexact HO
  iintro ⟨Hv1, H1, HO⟩
  iapply (wp_doneR W K c i.castSucc true)
  isplitr; · iexact HP
  isplitl [H2]; · iexact H2
  isplitl [HO]; · iexact HO
  iintro ⟨Hv2, H2, HO⟩
  iapply (wp_doneL W K c i false)
  isplitr; · iexact HP
  isplitl [H3]; · iexact H3
  isplitl [HO]; · iexact HO
  iintro ⟨Hv3, H3, HO⟩
  iapply (wp_doneL W K c i true)
  isplitr; · iexact HP
  isplitl [H4]; · iexact H4
  isplitl [HO]; · iexact HO
  iintro ⟨Hv4, H4, HO⟩
  iapply Hk
  isplitl [Hv1 Hv2 Hv3 Hv4]
  · isplitl [Hv1 Hv2]
    · isplitl [Hv1]; · iexact Hv1
      iexact Hv2
    isplitl [Hv3]; · iexact Hv3
    iexact Hv4
  isplitl [H1 H2 H3 H4]
  · isplitl [H1 H2]
    · isplitl [H1]; · iexact H1
      iexact H2
    isplitl [H3]; · iexact H3
    iexact H4
  iexact HO

end Cert.KernelIdeal.Hand

end
-- ==== Proof.Run.lean ====
/-
  The whole body on one device `c`: the barrier, the ring of transfers with the sixteen stages between them, and the waits
  for the sent copies, from the device's resources at launch to all its counters back at zero.
-/
module

public import proofs.«01_k».proof.Proof.Hops

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The neighbours, as the body computes them -/

theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)
theorem dev3 (c : Dev nD) : (⟨k0_dev3 c, k0_dev3_lt c⟩ : Dev nD) = nxt c := Fin.ext (k0_dev3_eq c)
theorem dev4 (c : Dev nD) : (⟨k0_dev4 c, k0_dev4_lt c⟩ : Dev nD) = nxt c := Fin.ext (k0_dev4_eq c)
theorem dev5 (c : Dev nD) : (⟨k0_dev5 c, k0_dev5_lt c⟩ : Dev nD) = prv c := Fin.ext (k0_dev5_eq c)
theorem dev6 (c : Dev nD) : (⟨k0_dev6 c, k0_dev6_lt c⟩ : Dev nD) = prv c := Fin.ext (k0_dev6_eq c)
theorem dev7 (c : Dev nD) : (⟨k0_dev7 c, k0_dev7_lt c⟩ : Dev nD) = nxt c := Fin.ext (k0_dev7_eq c)
theorem dev8 (c : Dev nD) : (⟨k0_dev8 c, k0_dev8_lt c⟩ : Dev nD) = nxt c := Fin.ext (k0_dev8_eq c)
theorem dev9 (c : Dev nD) : (⟨k0_dev9 c, k0_dev9_lt c⟩ : Dev nD) = prv c := Fin.ext (k0_dev9_eq c)
theorem dev10 (c : Dev nD) : (⟨k0_dev10 c, k0_dev10_lt c⟩ : Dev nD) = prv c := Fin.ext (k0_dev10_eq c)
theorem dev11 (c : Dev nD) : (⟨k0_dev11 c, k0_dev11_lt c⟩ : Dev nD) = nxt c := Fin.ext (k0_dev11_eq c)
theorem dev12 (c : Dev nD) : (⟨k0_dev12 c, k0_dev12_lt c⟩ : Dev nD) = nxt c := Fin.ext (k0_dev12_eq c)
theorem dev13 (c : Dev nD) : (⟨k0_dev13 c, k0_dev13_lt c⟩ : Dev nD) = prv c := Fin.ext (k0_dev13_eq c)
theorem dev14 (c : Dev nD) : (⟨k0_dev14 c, k0_dev14_lt c⟩ : Dev nD) = prv c := Fin.ext (k0_dev14_eq c)
theorem dev15 (c : Dev nD) : (⟨k0_dev15 c, k0_dev15_lt c⟩ : Dev nD) = nxt c := Fin.ext (k0_dev15_eq c)
theorem dev16 (c : Dev nD) : (⟨k0_dev16 c, k0_dev16_lt c⟩ : Dev nD) = nxt c := Fin.ext (k0_dev16_eq c)
theorem dev17 (c : Dev nD) : (⟨k0_dev17 c, k0_dev17_lt c⟩ : Dev nD) = prv c := Fin.ext (k0_dev17_eq c)
theorem dev18 (c : Dev nD) : (⟨k0_dev18 c, k0_dev18_lt c⟩ : Dev nD) = prv c := Fin.ext (k0_dev18_eq c)
theorem dev19 (c : Dev nD) : (⟨k0_dev19 c, k0_dev19_lt c⟩ : Dev nD) = nxt c := Fin.ext (k0_dev19_eq c)
theorem dev20 (c : Dev nD) : (⟨k0_dev20 c, k0_dev20_lt c⟩ : Dev nD) = nxt c := Fin.ext (k0_dev20_eq c)
theorem dev21 (c : Dev nD) : (⟨k0_dev21 c, k0_dev21_lt c⟩ : Dev nD) = prv c := Fin.ext (k0_dev21_eq c)
theorem dev22 (c : Dev nD) : (⟨k0_dev22 c, k0_dev22_lt c⟩ : Dev nD) = prv c := Fin.ext (k0_dev22_eq c)
theorem dev23 (c : Dev nD) : (⟨k0_dev23 c, k0_dev23_lt c⟩ : Dev nD) = nxt c := Fin.ext (k0_dev23_eq c)
theorem dev24 (c : Dev nD) : (⟨k0_dev24 c, k0_dev24_lt c⟩ : Dev nD) = nxt c := Fin.ext (k0_dev24_eq c)
theorem dev25 (c : Dev nD) : (⟨k0_dev25 c, k0_dev25_lt c⟩ : Dev nD) = prv c := Fin.ext (k0_dev25_eq c)
theorem dev26 (c : Dev nD) : (⟨k0_dev26 c, k0_dev26_lt c⟩ : Dev nD) = prv c := Fin.ext (k0_dev26_eq c)
theorem dev27 (c : Dev nD) : (⟨k0_dev27 c, k0_dev27_lt c⟩ : Dev nD) = nxt c := Fin.ext (k0_dev27_eq c)
theorem dev28 (c : Dev nD) : (⟨k0_dev28 c, k0_dev28_lt c⟩ : Dev nD) = nxt c := Fin.ext (k0_dev28_eq c)
theorem dev29 (c : Dev nD) : (⟨k0_dev29 c, k0_dev29_lt c⟩ : Dev nD) = prv c := Fin.ext (k0_dev29_eq c)
theorem dev30 (c : Dev nD) : (⟨k0_dev30 c, k0_dev30_lt c⟩ : Dev nD) = prv c := Fin.ext (k0_dev30_eq c)
theorem dev31 (c : Dev nD) : (⟨k0_dev31 c, k0_dev31_lt c⟩ : Dev nD) = nxt c := Fin.ext (k0_dev31_eq c)
theorem dev32 (c : Dev nD) : (⟨k0_dev32 c, k0_dev32_lt c⟩ : Dev nD) = nxt c := Fin.ext (k0_dev32_eq c)

variable (W : Own F) (K : GSem nD τ sig → ℕ)

/-! ## The barrier -/

/-- An own slot half at whatever it holds, its landing counter open. -/
def slotOwn (k : Ch) (c : Dev nD) : sProp 𝕄 := iprop((∃ f, dPts k c fullShare f) ∗ reached ER (recvCell k c) 0)
/-- A slot half at whatever it holds. -/
def anyHalf (k : Ch) (c : Dev nD) : sProp 𝕄 := iprop(∃ f, dPts k c fullShare f)

theorem star_sum (Φ : Ch → sProp 𝕄) : bigSep Finset.univ Φ
    = iprop((bigSep Finset.univ fun x => Φ (.inl x)) ∗ bigSep Finset.univ fun x => Φ (.inr x)) := BI.bigSep_univ_sum Φ
theorem star_star (Φ Ψ : Ch → sProp 𝕄) : (bigSep Finset.univ fun k => iprop(Φ k ∗ Ψ k)) = iprop(bigSep Finset.univ Φ ∗ bigSep Finset.univ Ψ) :=
  BI.bigSep_sep Finset.univ Φ Ψ

theorem chPerm_reached (c : Dev nD) (k : Ch) : chPerm W K c k ⊢ (reached ER (recvCell k c) 0 : sProp 𝕄) := by
  unfold chPerm
  iintro ⟨-, -, -, -, H⟩; iexact H

theorem perms_reached (c : Dev nD) : perms W K c ⊢ bigSep Finset.univ fun k : Ch => (reached ER (recvCell k c) 0 : sProp 𝕄) := by
  unfold perms
  exact BI.Laws.sep_elim_left.trans (BI.bigSep_mono fun k _ => chPerm_reached W K c k)

theorem ownSlots (c : Dev nD) :
    iprop(perms W K c ∗ bigSep Finset.univ fun k : Ch => anyHalf k c) ⊢ (iprop(barPay (prv c) true ∗ barPay (nxt c) false) : sProp 𝕄) := by
  have e1 : (barPay (prv c) true : sProp 𝕄) = bigSep Finset.univ fun x : Fin 8 × Bool => slotOwn (.inl x) c := by
    show (bigSep Finset.univ fun x : Fin 8 × Bool => slotOwn (.inl x) (nxt (prv c)) : sProp 𝕄) = _
    rw [nxt_prv]
  have e2 : (barPay (nxt c) false : sProp 𝕄) = bigSep Finset.univ fun x : Fin 7 × Bool => slotOwn (.inr x) c := by
    show (bigSep Finset.univ fun x : Fin 7 × Bool => slotOwn (.inr x) (prv (nxt c)) : sProp 𝕄) = _
    rw [prv_nxt]
  rw [e1, e2, ← star_sum (fun k : Ch => (slotOwn k c : sProp 𝕄))]
  iintro ⟨HP, Hs⟩
  ihave Hr := (perms_reached W K c) $$ HP
  ihave H := (Entails.of_eq (star_star (fun k : Ch => (anyHalf k c : sProp 𝕄)) (fun k : Ch => (reached ER (recvCell k c) 0 : sProp 𝕄))).symm) $$ [Hs Hr]
  · isplitl [Hs]; · iexact Hs
    iexact Hr
  iexact H

theorem slots_got (c : Dev nD) : (iprop(barPay c false ∗ barPay c true) : sProp 𝕄) ⊢ bigSep Finset.univ fun k : Ch => slotFor k c := by
  rw [star_sum (fun k : Ch => (slotFor k c : sProp 𝕄)),
    show (barPay c false : sProp 𝕄) = bigSep Finset.univ (fun x : Fin 7 × Bool => slotFor (.inr x) c) from rfl,
    show (barPay c true : sProp 𝕄) = bigSep Finset.univ (fun x : Fin 8 × Bool => slotFor (.inl x) c) from rfl]
  iintro ⟨H0, H1⟩
  isplitl [H1]; · iexact H1
  iexact H0

/-- What a device holds of the barriers. -/
def barGhost (c : Dev nD) : sProp 𝕄 :=
  iprop(cred (tallyAt (barCell c) () 2) ∗ atPos ER (barCell c) 0 ∅ 0 ∗ dutyTok ER (barCell (prv c)) 0 true ∗ dutyTok ER (barCell (nxt c)) 0 false)

theorem wp_barrier (c : Dev nD) (Wt : Waits sig Unit) (Kt : PUnit → sProp 𝕄) :
    iprop(perms W K c ∗ barGhost c ∗ (bigSep Finset.univ fun k : Ch => anyHalf k c) ∗ owes (c : Thread nD τ) (O₀ c) Wt
        ∗ ((semVal (barCell c) 0 ∗ (bigSep Finset.univ fun k : Ch => slotFor k c) ∗ owing c 0) -∗ Kt ⟨⟩))
      ⊢ wp frame (wpE (defs₀ (F := F)) 𝒱₀ c none) Set.univ
          (do semSignalWord (prv c) barSem.sem 1#32; semSignalWord (nxt c) barSem.sem 1#32; semWaitWord barSem.sem 2#32) Kt := by
  unfold barGhost
  iintro ⟨#HP, ⟨Hc, Hat, Ht1, Ht2⟩, Hs, HO, Hk⟩
  ihave #HB := (perms_bar W K c) $$ HP
  unfold barPerm
  icases HB with ⟨#HIb, #HIn, #HIp, #HrN, #HrP⟩
  ihave Hs := (ownSlots W K c) $$ [Hs]
  · isplitr; · iexact HP
    iexact Hs
  icases Hs with ⟨Hs1, Hs2⟩
  iapply (Rounds.wp_signal 𝒱₀ ER (Rd W) (c : Thread nD τ) none (dst := (prv c : Thread nD τ)) (sem := barS) (r := 0) (d := true) (κ := K (barCell (prv c)))
      (by rw [duties_bar]; exact Finset.mem_univ _) (amount_bar W (prv c) true) () (owedN c 0 + tallyAt (barCell (nxt c)) () 1) rfl) $$ [HO Ht1 Hs1]
  · isplitr; · iexact HIp
    isplitl [HO]; · iexact HO
    isplitl [Ht1]; · iexact Ht1
    isplitl [Hs1]; · rw [payload_bar]; iexact Hs1
    iexact HrP
  iintro HO
  iapply (Rounds.wp_signal 𝒱₀ ER (Rd W) (c : Thread nD τ) none (dst := (nxt c : Thread nD τ)) (sem := barS) (r := 0) (d := false) (κ := K (barCell (nxt c)))
      (by rw [duties_bar]; exact Finset.mem_univ _) (amount_bar W (nxt c) false) () (owedN c 0) rfl) $$ [HO Ht2 Hs2]
  · isplitr; · iexact HIn
    isplitl [HO]; · iexact HO
    isplitl [Ht2]; · iexact Ht2
    isplitl [Hs2]; · rw [payload_bar]; iexact Hs2
    iexact HrN
  iintro HO
  iapply (Rounds.wp_wait_rest_token 𝒱₀ ER (Rd W) (c : Thread nD τ) none (κ := K (barCell c))
      (wpE_semWait_eq 𝒱₀ (c : Thread nD τ) none Set.univ) (Set.mem_univ _) () (O := owedN c 0) (W := Wt) (R := 0) (m := 0) (T := ∅)
      ((Nat.zero_add 2).trans (expect_bar W c).symm)) $$ [Hc HO Hat]
  · isplitr; · iexact HIb
    isplitl [Hc]; · iexact Hc
    isplitl [HO]; · iexact HO
    isplitr
    · iapply (perms_mayWait W K c 0 (.reg barS) fun k _ => Nat.lt_of_lt_of_le (Nat.lt_succ_self 1) (Nat.le_add_left 2 _))
      iexact HP
    iexact Hat
  iintro ⟨HO, Hat, -, Hpay⟩
  ihave Hp := (Entails.of_eq (rest_bar W c)) $$ Hpay
  rw [wp_ret]
  imod (close W (K (barCell c)) (barCell c)) $$ [Hat] with Hv
  · isplitr; · iexact HIb
    iexact Hat
  imodintro
  iapply Hk
  isplitl [Hv]; · iexact Hv
  isplitl [Hp]; · iapply (slots_got c); iexact Hp
  unfold owing
  iexists _; iexact HO

/-! ## The staged operands -/

theorem wp_loadX (c : Dev nD) (q : PosShare TreeShare) (w : FVec F S512x768 .bf16) (h₁) (Kt : FVec F S512x768 .bf16 → sProp 𝕄) :
    iprop(buf xM c q w ∗ (buf xM c q w -∗ Kt w))
      ⊢ wp frame (wpE (defs₀ (F := F)) 𝒱₀ c none) Set.univ
          (Prog.lift (.load xM (Rect.unit (s := S512x768) ![0, 0] S512x768.size inb_S512x768_S512x768_0_0).toLoadRect h₁)) Kt := by
  have e : xM.view.readAt (Elt F) (Rect.unit (s := S512x768) ![0, 0] S512x768.size inb_S512x768_S512x768_0_0).toLoadRect w = w :=
    readAt_zero xM ![0, 0] zero2 inb_S512x768_S512x768_0_0 w
  iintro ⟨Ho, Hk⟩
  iapply (wp_load 𝒱₀ (c : Thread nD τ) none Set.univ (m := xM) (S := Finset.univ) (f := w) (Finset.subset_univ _)) $$ [Ho]
  · iexact Ho
  rw [e]
  iintro Ho
  rw [wp_ret]
  imodintro
  iapply Hk; iexact Ho
theorem wp_loadP (c : Dev nD) (q : PosShare TreeShare) (w : FVec F S256x256 .bf16) (h₁) (Kt : FVec F S256x256 .bf16 → sProp 𝕄) :
    iprop(buf pM c q w ∗ (buf pM c q w -∗ Kt w))
      ⊢ wp frame (wpE (defs₀ (F := F)) 𝒱₀ c none) Set.univ
          (Prog.lift (.load pM (Rect.unit (s := S256x256) ![0, 0] S256x256.size inb_S256x256_S256x256_0_0).toLoadRect h₁)) Kt := by
  have e : pM.view.readAt (Elt F) (Rect.unit (s := S256x256) ![0, 0] S256x256.size inb_S256x256_S256x256_0_0).toLoadRect w = w :=
    readAt_zero pM ![0, 0] zero2 inb_S256x256_S256x256_0_0 w
  iintro ⟨Ho, Hk⟩
  iapply (wp_load 𝒱₀ (c : Thread nD τ) none Set.univ (m := pM) (S := Finset.univ) (f := w) (Finset.subset_univ _)) $$ [Ho]
  · iexact Ho
  rw [e]
  iintro Ho
  rw [wp_ret]
  imodintro
  iapply Hk; iexact Ho
theorem wp_loadCs (c : Dev nD) (q : PosShare TreeShare) (w : FVec F S512x256 .f32) (h₁) (Kt : FVec F S512x256 .f32 → sProp 𝕄) :
    iprop(buf csM c q w ∗ (buf csM c q w -∗ Kt w))
      ⊢ wp frame (wpE (defs₀ (F := F)) 𝒱₀ c none) Set.univ
          (Prog.lift (.load csM (Rect.unit (s := S512x256) ![0, 0] S512x256.size inb_S512x256_S512x256_0_0).toLoadRect h₁)) Kt := by
  have e : csM.view.readAt (Elt F) (Rect.unit (s := S512x256) ![0, 0] S512x256.size inb_S512x256_S512x256_0_0).toLoadRect w = w :=
    readAt_zero csM ![0, 0] zero2 inb_S512x256_S512x256_0_0 w
  iintro ⟨Ho, Hk⟩
  iapply (wp_load 𝒱₀ (c : Thread nD τ) none Set.univ (m := csM) (S := Finset.univ) (f := w) (Finset.subset_univ _)) $$ [Ho]
  · iexact Ho
  rw [e]
  iintro Ho
  rw [wp_ret]
  imodintro
  iapply Hk; iexact Ho
theorem wp_loadSn (c : Dev nD) (q : PosShare TreeShare) (w : FVec F S512x256 .f32) (h₁) (Kt : FVec F S512x256 .f32 → sProp 𝕄) :
    iprop(buf snM c q w ∗ (buf snM c q w -∗ Kt w))
      ⊢ wp frame (wpE (defs₀ (F := F)) 𝒱₀ c none) Set.univ
          (Prog.lift (.load snM (Rect.unit (s := S512x256) ![0, 0] S512x256.size inb_S512x256_S512x256_0_0).toLoadRect h₁)) Kt := by
  have e : snM.view.readAt (Elt F) (Rect.unit (s := S512x256) ![0, 0] S512x256.size inb_S512x256_S512x256_0_0).toLoadRect w = w :=
    readAt_zero snM ![0, 0] zero2 inb_S512x256_S512x256_0_0 w
  iintro ⟨Ho, Hk⟩
  iapply (wp_load 𝒱₀ (c : Thread nD τ) none Set.univ (m := snM) (S := Finset.univ) (f := w) (Finset.subset_univ _)) $$ [Ho]
  · iexact Ho
  rw [e]
  iintro Ho
  rw [wp_ret]
  imodintro
  iapply Hk; iexact Ho

/-! ## The own chunk's shares -/

theorem set_halfW (s : Bool) : (halfW wM s).view.set = (Rect.unit (s := S3072x256) ![off s, 0] S1536x256.size (inbW s)).set :=
  View.set_slice_whole cc0_stg1_0 _
theorem mem_halfW (s : Bool) (i : S3072x256.Idx) :
    i ∈ (halfW wM s).view.set ↔ off s ≤ (i 0).val ∧ (i 0).val < off s + 1536 := by
  rw [set_halfW, Rect.mem_set_unit, Fin.forall_fin_succ, Fin.forall_fin_one]
  have h1 : (i 1).val < 256 := (i 1).isLt
  constructor
  · rintro ⟨h, -⟩; exact h
  · intro h; exact ⟨h, Nat.zero_le _, show (i 1).val < 0 + 256 by omega⟩
theorem halvesW_disjoint : Disjoint (halfW wM false).view.set (halfW wM true).view.set := by
  refine Finset.disjoint_left.mpr fun i h h' => ?_
  have h : (i 0).val < 0 + 1536 := ((mem_halfW false i).mp h).2
  have h' : 1536 ≤ (i 0).val := ((mem_halfW true i).mp h').1
  omega
theorem halvesW_cover : (halfW wM false).view.set ∪ (halfW wM true).view.set = (Finset.univ : Finset S3072x256.Idx) := by
  refine Finset.eq_univ_of_forall fun i => ?_
  have h0 : (i 0).val < 3072 := (i 0).isLt
  rw [Finset.mem_union, mem_halfW, mem_halfW]
  by_cases h : (i 0).val < 1536
  · exact .inl ⟨Nat.zero_le _, show (i 0).val < 0 + 1536 by omega⟩
  · exact .inr ⟨show 1536 ≤ (i 0).val by omega, show (i 0).val < 1536 + 1536 by omega⟩

theorem halvesW (c : Dev nD) (q : PosShare TreeShare) (w : FVec F S3072x256 .bf16) :
    (buf wM c q w : sProp 𝕄) ⊣⊢ iprop((wM.view.loc (c : Thread nD τ) ↦[(halfW wM false).view.set]{q} w) ∗ wM.view.loc (c : Thread nD τ) ↦[(halfW wM true).view.set]{q} w) := by
  have h := pointsTo_union (ℓ := wM.view.loc (c : Thread nD τ)) (q := q) (f := w) (Ix := Unit) (Val := Elt F) (Name := ℕ) (U := UU) (Lvl := ℕ) halvesW_disjoint
  rw [halvesW_cover] at h
  exact h

/-- The own chunk whole, against: the shares its first transfers both ways read, and one for the loads. -/
theorem shareW (c : Dev nD) :
    (buf wM c fullShare (W c) : sProp 𝕄) ⊣⊢ iprop(hopF (srcAt W) 0 c ∗ buf wM c fullShare.right.right (W c)) := by
  have e1 : (buf wM c fullShare (W c) : sProp 𝕄) ⊣⊢ iprop(buf wM c fullShare.left (W c) ∗ buf wM c fullShare.right (W c)) :=
    pointsTo_share (PosShare.mem_left_op_right fullShare)
  have e2 : (buf wM c fullShare.right (W c) : sProp 𝕄) ⊣⊢ iprop(buf wM c fullShare.right.left (W c) ∗ buf wM c fullShare.right.right (W c)) :=
    pointsTo_share (PosShare.mem_left_op_right fullShare.right)
  have a1 := halvesW c fullShare.left (W c)
  have a2 := halvesW c fullShare.right.left (W c)
  unfold hopF hop bothR bothL
  constructor
  · iintro H
    ihave H := e1.1 $$ H
    icases H with ⟨HA, H⟩
    ihave H := e2.1 $$ H
    icases H with ⟨HB, HC⟩
    ihave HA := a1.1 $$ HA
    ihave HB := a2.1 $$ HB
    isplitr [HC]
    · isplitl [HA]; · iexact HA
      iexact HB
    iexact HC
  · iintro ⟨⟨HA, HB⟩, HC⟩
    iapply e1.2
    isplitl [HA]; · iapply a1.2; iexact HA
    iapply e2.2
    isplitl [HB]; · iapply a2.2; iexact HB
    iexact HC

/-- A slot half as it landed. -/
def full (k : Ch) (c : Dev nD) : sProp 𝕄 := dPts k c fullShare (cont W k c)

theorem joinR' (c : Dev nD) (j : ℕ) (hj : j + 1 < 8) (s : Bool) :
    iprop(srcAt W (.inl (⟨j + 1, hj⟩, s)) c ∗ dPts (.inl (⟨j, Nat.lt_of_succ_lt hj⟩, s)) c fullShare.right (GR W c)) ⊢ full W (.inl (⟨j, Nat.lt_of_succ_lt hj⟩, s)) c :=
  (shareR W c j hj s).2
theorem rejoinR (c : Dev nD) (j : ℕ) (hj : j + 1 < 8) :
    iprop(bothFR (srcAt W) ⟨j + 1, hj⟩ c ∗ slotR W ⟨j, Nat.lt_of_succ_lt hj⟩ c fullShare.right) ⊢ bothFR (full W) ⟨j, Nat.lt_of_succ_lt hj⟩ c := by
  unfold bothFR bothR slotR
  iintro ⟨⟨HA, HB⟩, HC, HD⟩
  isplitl [HA HC]
  · iapply (joinR' W c j hj false)
    isplitl [HA]; · iexact HA
    iexact HC
  iapply (joinR' W c j hj true)
  isplitl [HB]; · iexact HB
  iexact HD
theorem joinL' (c : Dev nD) (j : ℕ) (hj : j + 1 < 7) (s : Bool) :
    iprop(srcAt W (.inr (⟨j + 1, hj⟩, s)) c ∗ dPts (.inr (⟨j, Nat.lt_of_succ_lt hj⟩, s)) c fullShare.right (GL W c)) ⊢ full W (.inr (⟨j, Nat.lt_of_succ_lt hj⟩, s)) c :=
  (shareL W c j hj s).2
theorem rejoinL (c : Dev nD) (j : ℕ) (hj : j + 1 < 7) :
    iprop(bothFL (srcAt W) ⟨j + 1, hj⟩ c ∗ slotL W ⟨j, Nat.lt_of_succ_lt hj⟩ c fullShare.right) ⊢ bothFL (full W) ⟨j, Nat.lt_of_succ_lt hj⟩ c := by
  unfold bothFL bothL slotL
  iintro ⟨⟨HA, HB⟩, HC, HD⟩
  isplitl [HA HC]
  · iapply (joinL' W c j hj false)
    isplitl [HA]; · iexact HA
    iexact HC
  iapply (joinL' W c j hj true)
  isplitl [HB]; · iexact HB
  iexact HD
/-- What a step left of a hop and what the next hop's copies give back: the hop's slots whole. -/
theorem rejoin (c : Dev nD) (i : ℕ) (hi : i + 1 < 7) :
    iprop(hopF (srcAt W) ⟨i + 1, hi⟩ c ∗ got W ⟨i, Nat.lt_of_succ_lt hi⟩ c)
      ⊢ iprop(hopF recvd ⟨i, Nat.lt_of_succ_lt hi⟩ c ∗ hopF (full W) ⟨i, Nat.lt_of_succ_lt hi⟩ c) := by
  unfold got hopF hop
  iintro ⟨⟨HA, HB⟩, Hv, HC, HD⟩
  isplitl [Hv]; · iexact Hv
  isplitl [HA HC]
  · iapply (rejoinR W c i (by omega))
    isplitl [HA]; · iexact HA
    iexact HC
  iapply (rejoinL W c i hi)
  isplitl [HB]; · iexact HB
  iexact HD

end Cert.KernelIdeal.Hand

end
-- ==== Proof.Whole.lean ====
/-
  The body of the kernel, from a device's resources at its start to what it leaves.
-/
module

public import proofs.«01_k».proof.Proof.Run

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (W : Own F) (K : GSem nD τ sig → ℕ)
variable (x : FVec F S512x768 .bf16) (cs sn : FVec F S512x256 .f32) (p : FVec F S256x256 .bf16)

/-- The result after the own chunk and the first `i` steps. -/
def accAt (c : Dev nD) : ℕ → FVec F S512x768 .f32
  | 0 => con W x cs sn p c
  | i + 1 => addf (addf (accAt c i) (con W x cs sn p (nxt^[i + 1] c))) (con W x cs sn p (prv^[i + 1] c))
/-- The whole result. -/
def outOf (c : Dev nD) : FVec F S512x768 .f32 :=
  addf (addf (addf (accAt W x cs sn p c 6) (con W x cs sn p (prv^[7] c))) (con W x cs sn p (nxt^[7] c))) (con W x cs sn p (prv^[8] c))

/-- The operands the body only reads. -/
def readOnly (c : Dev nD) : sProp 𝕄 := iprop(buf xM c fullShare x ∗ buf csM c fullShare cs ∗ buf snM c fullShare sn ∗ buf pM c fullShare p)

/-- At the start. -/
def bodyPre (c : Dev nD) (Wt : Waits sig Unit) : sProp 𝕄 :=
  iprop(perms W K c ∗ barGhost c ∗ owes (c : Thread nD τ) (O₀ c) Wt
    ∗ (bigSep Finset.univ fun k : Ch => toStart k c) ∗ (bigSep Finset.univ fun k : Ch => toRecv k c) ∗ (bigSep Finset.univ fun k : Ch => anyHalf k c)
    ∗ readOnly x cs sn p c ∗ buf wM c fullShare (W c) ∗ (∃ f, buf cM c fullShare f) ∗ ∃ f, buf oM c fullShare f)
/-- At the end: every counter back at zero, every slot at the chunk it received, the result in place, nothing owed. -/
def bodyPost (c : Dev nD) : sProp 𝕄 :=
  iprop(semVal (barCell c) 0 ∗ (bigSep Finset.univ fun k : Ch => sent k c) ∗ (bigSep Finset.univ fun k : Ch => recvd k c)
    ∗ (bigSep Finset.univ fun k : Ch => full W k c) ∗ readOnly x cs sn p c ∗ buf wM c fullShare (W c) ∗ (∃ f, buf cM c fullShare f)
    ∗ buf oM c fullShare (outOf W x cs sn p c) ∗ owing c 30)

theorem wp_dev (c : Dev nD) (Q : Dev nD → sProp 𝕄) :
    wp frame (wpE (defs₀ (F := F)) 𝒱₀ c none) Set.univ (Prog.lift .deviceId : Prog (TpuEff nD τ sig (Elt F) Λ₀ .tc) (Dev nD)) Q = iprop(|={Set.univ}=> Q c) := by
  unfold Prog.lift
  rw [wp_deviceId, wp_ret]

/-- What the transfers spend, hop by hop, from the tokens and the slots at the targets. -/
theorem readies (c : Dev nD) : iprop((bigSep Finset.univ fun k : Ch => toStart k c) ∗ (bigSep Finset.univ fun k : Ch => slotFor k c))
    ⊢ (iprop(hopF ready 0 c ∗ hopF ready 1 c ∗ hopF ready 2 c ∗ hopF ready 3 c ∗ hopF ready 4 c ∗ hopF ready 5 c ∗ hopF ready 6 c ∗ bothFR ready 7 c) : sProp 𝕄) :=
  Entails.of_eq ((star_star (fun k : Ch => (toStart k c : sProp 𝕄)) (fun k : Ch => (slotFor k c : sProp 𝕄))).symm.trans
    (hops_eq (fun k : Ch => (ready k c : sProp 𝕄))))
/-- A family over the transfers, hop by hop. -/
theorem hops (Φ : Ch → Dev nD → sProp 𝕄) (c : Dev nD) : (bigSep Finset.univ fun k : Ch => Φ k c)
    ⊣⊢ iprop(hopF Φ 0 c ∗ hopF Φ 1 c ∗ hopF Φ 2 c ∗ hopF Φ 3 c ∗ hopF Φ 4 c ∗ hopF Φ 5 c ∗ hopF Φ 6 c ∗ bothFR Φ 7 c) :=
  ⟨Entails.of_eq (hops_eq fun k => Φ k c), Entails.of_eq (hops_eq fun k => Φ k c).symm⟩
theorem hop0_parts (Φ : Ch → Dev nD → sProp 𝕄) (c : Dev nD) : hopF Φ 0 c ⊣⊢ iprop(bothFR Φ 0 c ∗ bothFL Φ 0 c) := ⟨.rfl, .rfl⟩
theorem hop6_parts (Φ : Ch → Dev nD → sProp 𝕄) (c : Dev nD) : hopF Φ 6 c ⊣⊢ iprop(bothFR Φ 6 c ∗ bothFL Φ 6 c) := ⟨.rfl, .rfl⟩
theorem bothR_parts (Φ : Ch → Dev nD → sProp 𝕄) (j : Fin 8) (c : Dev nD) : bothFR Φ j c ⊣⊢ iprop(Φ (.inl (j, false)) c ∗ Φ (.inl (j, true)) c) := ⟨.rfl, .rfl⟩
theorem bothL_parts (Φ : Ch → Dev nD → sProp 𝕄) (j : Fin 7) (c : Dev nD) : bothFL Φ j c ⊣⊢ iprop(Φ (.inr (j, false)) c ∗ Φ (.inr (j, true)) c) := ⟨.rfl, .rfl⟩

/-- After the last transfer nothing more is owed. -/
theorem owing_last (c : Dev nD) : owing (F := F) c 30 ⊣⊢ owing c 32 := by
  have e : owedN c 32 = owedN c 30 := by
    unfold owedN
    rw [Finset.filter_false_of_mem fun k _ => by have := rank_lt k; omega, Finset.filter_false_of_mem fun k _ => by have := rank_lt k; omega]
  unfold owing
  rw [e]
theorem started_last (c : Dev nD) : bothFR (F := F) started ⟨6 + 1, by decide⟩ c ⊢ bothFR started 7 c := .rfl

theorem slotR_full (j : Fin 8) (c : Dev nD) : slotR W j c fullShare ⊣⊢ bothFR (full W) j c := ⟨.rfl, .rfl⟩
theorem slotL_full (j : Fin 7) (c : Dev nD) : slotL W j c fullShare ⊣⊢ bothFL (full W) j c := ⟨.rfl, .rfl⟩
theorem slotR_parts (j : Fin 8) (c : Dev nD) : slotR W j c fullShare ⊣⊢ iprop(dPts (.inl (j, false)) c fullShare (GR W c) ∗ dPts (.inl (j, true)) c fullShare (GR W c)) := ⟨.rfl, .rfl⟩
theorem slotL_parts (j : Fin 7) (c : Dev nD) : slotL W j c fullShare ⊣⊢ iprop(dPts (.inr (j, false)) c fullShare (GL W c) ∗ dPts (.inr (j, true)) c fullShare (GL W c)) := ⟨.rfl, .rfl⟩

set_option maxHeartbeats 4000000 in
theorem body_run (c : Dev nD) (Wt : Waits sig Unit) (Kt : PUnit → sProp 𝕄) :
    iprop(bodyPre W K x cs sn p c Wt ∗ (bodyPost W x cs sn p c -∗ Kt ⟨⟩))
      ⊢ wp frame (wpE (defs₀ (F := F)) 𝒱₀ c none) Set.univ
          (bodyProg xM wM (Memref.isWhole_whole _) pM csM snM oM gR (Memref.isWhole_whole _) gL (Memref.isWhole_whole _) cM (Memref.isWhole_whole _)
            cc0_scratch3 cc0_scratch4 cc0_scratch5 cc0_scratch6) Kt := by
  unfold bodyPre readOnly bodyProg
  rw [wp_bind, wp_dev]
  simp only [wp_bind, dev1, dev2, dev3, dev4, dev5, dev6, dev7, dev8, dev9, dev10, dev11, dev12, dev13, dev14, dev15, dev16, dev17, dev18, dev19, dev20, dev21, dev22, dev23, dev24, dev25, dev26, dev27, dev28, dev29, dev30, dev31, dev32]
  iintro ⟨⟨#HP, HB, HO, Hst, Hrc, Hsl, ⟨Hx, Hcs, Hsn, Hp⟩, Hw, Hc, Ho⟩, Hk⟩
  imodintro
  have tb := wp_barrier W K c Wt
  simp only [wp_bind] at tb
  iapply tb
  isplitr; · iexact HP
  isplitl [HB]; · iexact HB
  isplitl [Hsl]; · iexact Hsl
  isplitl [HO]; · iexact HO
  iintro ⟨Hbar, Hsl, HO⟩
  ihave Hrd := (readies c) $$ [Hst Hsl]
  · isplitl [Hst]; · iexact Hst
    iexact Hsl
  ihave Hrc := (hops toRecv c).1 $$ Hrc
  icases Hrd with ⟨Hd0, Hd1, Hd2, Hd3, Hd4, Hd5, Hd6, Hd7⟩
  icases Hrc with ⟨Hr0, Hr1, Hr2, Hr3, Hr4, Hr5, Hr6, Hr7⟩
  iapply (wp_loadX c fullShare x)
  isplitl [Hx]; · iexact Hx
  iintro Hx
  iapply (wp_loadCs c fullShare cs)
  isplitl [Hcs]; · iexact Hcs
  iintro Hcs
  iapply (wp_loadSn c fullShare sn)
  isplitl [Hsn]; · iexact Hsn
  iintro Hsn
  iapply (wp_loadP c fullShare p)
  isplitl [Hp]; · iexact Hp
  iintro Hp
  simp only [shapeCast_self]
  ihave Hw := (shareW W c).1 $$ Hw
  icases Hw with ⟨Hq, Hw⟩
  ihave Hq := (hop0_parts (srcAt W) c).1 $$ Hq
  icases Hq with ⟨Hq12, Hq34⟩
  ihave Hq12 := (bothR_parts (srcAt W) 0 c).1 $$ Hq12
  icases Hq12 with ⟨Hw1, Hw2⟩
  ihave Hq34 := (bothL_parts (srcAt W) 0 c).1 $$ Hq34
  icases Hq34 with ⟨Hw3, Hw4⟩
  ihave Hd0 := (hop0_parts ready c).1 $$ Hd0
  icases Hd0 with ⟨Hs12, Hs34⟩
  ihave Hs12 := (bothR_parts ready 0 c).1 $$ Hs12
  icases Hs12 with ⟨Hs1, Hs2⟩
  ihave Hs34 := (bothL_parts ready 0 c).1 $$ Hs34
  icases Hs34 with ⟨Hs3, Hs4⟩
  iapply (wp_startR W K c 0 false 0 1 rfl rfl (nxt c) rfl)
  isplitr; · iexact HP
  isplitl [Hs1]; · iexact Hs1
  isplitl [Hw1]; · iexact Hw1
  isplitl [HO]; · iexact HO
  iintro ⟨Hs1, HO⟩
  iapply (wp_startR W K c 0 true 1 2 rfl rfl (nxt c) rfl)
  isplitr; · iexact HP
  isplitl [Hs2]; · iexact Hs2
  isplitl [Hw2]; · iexact Hw2
  isplitl [HO]; · iexact HO
  iintro ⟨Hs2, HO⟩
  iapply (wp_startL W K c 0 false 2 3 rfl rfl (prv c) rfl)
  isplitr; · iexact HP
  isplitl [Hs3]; · iexact Hs3
  isplitl [Hw3]; · iexact Hw3
  isplitl [HO]; · iexact HO
  iintro ⟨Hs3, HO⟩
  iapply (wp_startL W K c 0 true 3 4 rfl rfl (prv c) rfl)
  isplitr; · iexact HP
  isplitl [Hs4]; · iexact Hs4
  isplitl [Hw4]; · iexact Hw4
  isplitl [HO]; · iexact HO
  iintro ⟨Hs4, HO⟩
  iapply (wp_stageOwn x cs sn p c fullShare.right.right (W c))
  isplitl [Hw]; · iexact Hw
  isplitl [Hc]; · iexact Hc
  isplitl [Ho]; · iexact Ho
  iintro ⟨Hw, Hc, Ho⟩
  iapply (wp_midStep W K x cs sn p c 0 (by decide) (nxt c) (nxt c) (prv c) (prv c) rfl rfl rfl rfl (accAt W x cs sn p c 0))
  isplitr; · iexact HP
  isplitl [Hr0]; · iexact Hr0
  isplitl [Hd1]; · iexact Hd1
  isplitl [HO]; · iexact HO
  isplitl [Hc]; · iexact Hc
  isplitl [Ho]; · iexact Ho
  iintro ⟨Hr0, Hd1, HO, Hc, Ho⟩
  iapply (wp_midStep W K x cs sn p c 1 (by decide) (nxt c) (nxt c) (prv c) (prv c) rfl rfl rfl rfl (accAt W x cs sn p c 1))
  isplitr; · iexact HP
  isplitl [Hr1]; · iexact Hr1
  isplitl [Hd2]; · iexact Hd2
  isplitl [HO]; · iexact HO
  isplitl [Hc]; · iexact Hc
  isplitl [Ho]; · iexact Ho
  iintro ⟨Hr1, Hd2, HO, Hc, Ho⟩
  iapply (wp_midStep W K x cs sn p c 2 (by decide) (nxt c) (nxt c) (prv c) (prv c) rfl rfl rfl rfl (accAt W x cs sn p c 2))
  isplitr; · iexact HP
  isplitl [Hr2]; · iexact Hr2
  isplitl [Hd3]; · iexact Hd3
  isplitl [HO]; · iexact HO
  isplitl [Hc]; · iexact Hc
  isplitl [Ho]; · iexact Ho
  iintro ⟨Hr2, Hd3, HO, Hc, Ho⟩
  iapply (wp_midStep W K x cs sn p c 3 (by decide) (nxt c) (nxt c) (prv c) (prv c) rfl rfl rfl rfl (accAt W x cs sn p c 3))
  isplitr; · iexact HP
  isplitl [Hr3]; · iexact Hr3
  isplitl [Hd4]; · iexact Hd4
  isplitl [HO]; · iexact HO
  isplitl [Hc]; · iexact Hc
  isplitl [Ho]; · iexact Ho
  iintro ⟨Hr3, Hd4, HO, Hc, Ho⟩
  iapply (wp_midStep W K x cs sn p c 4 (by decide) (nxt c) (nxt c) (prv c) (prv c) rfl rfl rfl rfl (accAt W x cs sn p c 4))
  isplitr; · iexact HP
  isplitl [Hr4]; · iexact Hr4
  isplitl [Hd5]; · iexact Hd5
  isplitl [HO]; · iexact HO
  isplitl [Hc]; · iexact Hc
  isplitl [Ho]; · iexact Ho
  iintro ⟨Hr4, Hd5, HO, Hc, Ho⟩
  iapply (wp_midStep W K x cs sn p c 5 (by decide) (nxt c) (nxt c) (prv c) (prv c) rfl rfl rfl rfl (accAt W x cs sn p c 5))
  isplitr; · iexact HP
  isplitl [Hr5]; · iexact Hr5
  isplitl [Hd6]; · iexact Hd6
  isplitl [HO]; · iexact HO
  isplitl [Hc]; · iexact Hc
  isplitl [Ho]; · iexact Ho
  iintro ⟨Hr5, Hd6, HO, Hc, Ho⟩
  ihave Hr6 := (hop6_parts toRecv c).1 $$ Hr6
  icases Hr6 with ⟨Hr6, Hl6⟩
  iapply (wp_stepR W K c 6 (by decide) (nxt c) (nxt c) rfl rfl 28 29 30 rfl rfl rfl)
  isplitr; · iexact HP
  isplitl [Hr6]; · iexact Hr6
  isplitl [Hd7]; · iexact Hd7
  isplitl [HO]; · iexact HO
  iintro ⟨Hr6, HgR6, Hd7, HO⟩
  iapply (wp_stageR x cs sn p W 6 c fullShare.right (accAt W x cs sn p c 6))
  isplitl [HgR6]; · iexact HgR6
  isplitl [Hc]; · iexact Hc
  isplitl [Ho]; · iexact Ho
  iintro ⟨HgR6, Hc, Ho⟩
  ihave Hl6 := (bothL_parts toRecv 6 c).1 $$ Hl6
  icases Hl6 with ⟨Hl, Hl'⟩
  iapply (wp_recvL W K c 6 false 30 (by decide))
  isplitr; · iexact HP
  isplitl [Hl]; · iexact Hl
  isplitl [HO]; · iexact HO
  iintro ⟨Hl, Hg, HO⟩
  iapply (wp_recvL W K c 6 true 30 (by decide))
  isplitr; · iexact HP
  isplitl [Hl']; · iexact Hl'
  isplitl [HO]; · iexact HO
  iintro ⟨Hl', Hg', HO⟩
  iapply (wp_stageL x cs sn p W 6 c fullShare _)
  isplitl [Hg Hg']
  · iapply (slotL_parts W 6 c).2
    isplitl [Hg]; · iexact Hg
    iexact Hg'
  isplitl [Hc]; · iexact Hc
  isplitl [Ho]; · iexact Ho
  iintro ⟨HgL6, Hc, Ho⟩
  ihave Hr7 := (bothR_parts toRecv 7 c).1 $$ Hr7
  icases Hr7 with ⟨Hm, Hm'⟩
  ihave HO := (owing_last c).1 $$ HO
  iapply (wp_recvR W K c 7 false 32 (by decide))
  isplitr; · iexact HP
  isplitl [Hm]; · iexact Hm
  isplitl [HO]; · iexact HO
  iintro ⟨Hm, Hg, HO⟩
  iapply (wp_recvR W K c 7 true 32 (by decide))
  isplitr; · iexact HP
  isplitl [Hm']; · iexact Hm'
  isplitl [HO]; · iexact HO
  iintro ⟨Hm', Hg', HO⟩
  ihave HO := (owing_last c).2 $$ HO
  iapply (wp_stageR x cs sn p W 7 c fullShare _)
  isplitl [Hg Hg']
  · iapply (slotR_parts W 7 c).2
    isplitl [Hg]; · iexact Hg
    iexact Hg'
  isplitl [Hc]; · iexact Hc
  isplitl [Ho]; · iexact Ho
  iintro ⟨HgR7, Hc, Ho⟩
  iapply (wp_donePair W K c 0)
  isplitr; · iexact HP
  isplitl [Hs1 Hs2 Hs3 Hs4]
  · iapply (hop0_parts started c).2
    isplitl [Hs1 Hs2]
    · iapply (bothR_parts started 0 c).2
      isplitl [Hs1]; · iexact Hs1
      iexact Hs2
    iapply (bothL_parts started 0 c).2
    isplitl [Hs3]; · iexact Hs3
    iexact Hs4
  isplitl [HO]; · iexact HO
  iintro ⟨Hd0, He0, HO⟩
  iapply (wp_donePair W K c 1)
  isplitr; · iexact HP
  isplitl [Hd1]; · iexact Hd1
  isplitl [HO]; · iexact HO
  iintro ⟨Hd1, He1, HO⟩
  iapply (wp_donePair W K c 2)
  isplitr; · iexact HP
  isplitl [Hd2]; · iexact Hd2
  isplitl [HO]; · iexact HO
  iintro ⟨Hd2, He2, HO⟩
  iapply (wp_donePair W K c 3)
  isplitr; · iexact HP
  isplitl [Hd3]; · iexact Hd3
  isplitl [HO]; · iexact HO
  iintro ⟨Hd3, He3, HO⟩
  iapply (wp_donePair W K c 4)
  isplitr; · iexact HP
  isplitl [Hd4]; · iexact Hd4
  isplitl [HO]; · iexact HO
  iintro ⟨Hd4, He4, HO⟩
  iapply (wp_donePair W K c 5)
  isplitr; · iexact HP
  isplitl [Hd5]; · iexact Hd5
  isplitl [HO]; · iexact HO
  iintro ⟨Hd5, He5, HO⟩
  iapply (wp_donePair W K c 6)
  isplitr; · iexact HP
  isplitl [Hd6]; · iexact Hd6
  isplitl [HO]; · iexact HO
  iintro ⟨Hd6, He6, HO⟩
  ihave Hd7 := (started_last c) $$ Hd7
  ihave Hd7 := (bothR_parts started 7 c).1 $$ Hd7
  icases Hd7 with ⟨Hn, Hn'⟩
  iapply (wp_doneR W K c 7 false)
  isplitr; · iexact HP
  isplitl [Hn]; · iexact Hn
  isplitl [HO]; · iexact HO
  iintro ⟨Hn, He7, HO⟩
  iapply (wp_doneR W K c 7 true)
  isplitr; · iexact HP
  isplitl [Hn']; · iexact Hn'
  isplitl [HO]; · iexact HO
  iintro ⟨Hn', He7', HO⟩
  iapply Hk
  unfold bodyPost readOnly
  ihave Hw := (shareW W c).2 $$ [He0 Hw]
  · isplitl [He0]; · iexact He0
    iexact Hw
  ihave Hr0 := (rejoin W c 0 (by decide)) $$ [He1 Hr0]
  · isplitl [He1]; · iexact He1
    iexact Hr0
  icases Hr0 with ⟨Hr0, Hf0⟩
  ihave Hr1 := (rejoin W c 1 (by decide)) $$ [He2 Hr1]
  · isplitl [He2]; · iexact He2
    iexact Hr1
  icases Hr1 with ⟨Hr1, Hf1⟩
  ihave Hr2 := (rejoin W c 2 (by decide)) $$ [He3 Hr2]
  · isplitl [He3]; · iexact He3
    iexact Hr2
  icases Hr2 with ⟨Hr2, Hf2⟩
  ihave Hr3 := (rejoin W c 3 (by decide)) $$ [He4 Hr3]
  · isplitl [He4]; · iexact He4
    iexact Hr3
  icases Hr3 with ⟨Hr3, Hf3⟩
  ihave Hr4 := (rejoin W c 4 (by decide)) $$ [He5 Hr4]
  · isplitl [He5]; · iexact He5
    iexact Hr4
  icases Hr4 with ⟨Hr4, Hf4⟩
  ihave Hr5 := (rejoin W c 5 (by decide)) $$ [He6 Hr5]
  · isplitl [He6]; · iexact He6
    iexact Hr5
  icases Hr5 with ⟨Hr5, Hf5⟩
  ihave HgR6 := (rejoinR W c 6 (by decide)) $$ [He7 He7' HgR6]
  · isplitl [He7 He7']
    · iapply (bothR_parts (srcAt W) 7 c).2
      isplitl [He7]; · iexact He7
      iexact He7'
    iexact HgR6
  isplitl [Hbar]; · iexact Hbar
  isplitl [Hd0 Hd1 Hd2 Hd3 Hd4 Hd5 Hd6 Hn Hn']
  · iapply (hops sent c).2
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iapply (bothR_parts sent 7 c).2
    isplitl [Hn]; · iexact Hn
    iexact Hn'
  isplitl [Hr0 Hr1 Hr2 Hr3 Hr4 Hr5 Hr6 Hl Hl' Hm Hm']
  · iapply (hops recvd c).2
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6 Hl Hl']
    · iapply (hop6_parts recvd c).2
      isplitl [Hr6]; · iexact Hr6
      iapply (bothL_parts recvd 6 c).2
      isplitl [Hl]; · iexact Hl
      iexact Hl'
    iapply (bothR_parts recvd 7 c).2
    isplitl [Hm]; · iexact Hm
    iexact Hm'
  isplitl [Hf0 Hf1 Hf2 Hf3 Hf4 Hf5 HgR6 HgL6 HgR7]
  · iapply (hops (full W) c).2
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [HgR6 HgL6]
    · iapply (hop6_parts (full W) c).2
      isplitl [HgR6]; · iexact HgR6
      iapply (slotL_full W 6 c).1
      iexact HgL6
    iapply (slotR_full W 7 c).1
    iexact HgR7
  isplitl [Hx Hcs Hsn Hp]
  · isplitl [Hx]; · iexact Hx
    isplitl [Hcs]; · iexact Hcs
    isplitl [Hsn]; · iexact Hsn
    iexact Hp
  isplitl [Hw]; · iexact Hw
  isplitl [Hc]; · iexact Hc
  isplitl [Ho]; · iexact Ho
  iexact HO

end Cert.KernelIdeal.Hand

end
-- ==== Proof.Deal.lean ====
/-
  What each device is dealt at the start: the invariants of all counters (the barriers' open, the transfers' closed until
  the kernel owns its counters), the positions, the tokens of the payments it will make, and the credits for the payments
  it will receive; and the opening of a device's sixty transfer counters when the kernel starts.
-/
module

public import proofs.«01_k».proof.Proof.Whole

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The counters -/

/-- A device's own transfer counters: the sending ones, then the landing ones. -/
def osem : Ch ⊕ Ch → SemLoc sig
  | .inl k => .dma (sendS k)
  | .inr k => .dma (recvS k)

theorem osem_inj : Function.Injective osem := by
  have hd {n n' : DmaSem sig} (h : (SemLoc.dma n : SemLoc sig) = .dma n') : kindOf n = kindOf n' := by
    injection h with h; rw [h]
  rintro (k | k) (k' | k') h
  · have e := hd h; rw [kindOf_send, kindOf_send] at e; simp only [Option.some.injEq, Prod.mk.injEq, true_and] at e; rw [e]
  · have e := hd h; rw [kindOf_send, kindOf_recv] at e; simp only [Option.some.injEq, Prod.mk.injEq, Bool.false_eq_true, false_and] at e
  · have e := hd h; rw [kindOf_send, kindOf_recv] at e; simp only [Option.some.injEq, Prod.mk.injEq, Bool.true_eq_false, false_and] at e
  · have e := hd h; rw [kindOf_recv, kindOf_recv] at e; simp only [Option.some.injEq, Prod.mk.injEq, true_and] at e; rw [e]
theorem osem_ne_bar (k : Ch ⊕ Ch) : osem k ≠ .reg barS := by rcases k with k | k <;> exact fun h => nomatch h

def barEmb : Dev nD ↪ GSem nD τ sig := ⟨fun c => barCell c, fun _ _ h => congrArg (fun g : GSem nD τ sig => g.1.1) h⟩
def ownEmb : Dev nD × (Ch ⊕ Ch) ↪ GSem nD τ sig :=
  ⟨fun x => ((x.1 : Thread nD τ), osem x.2), fun _ _ h => Prod.ext (congrArg (fun g : GSem nD τ sig => g.1.1) h) (osem_inj (congrArg Prod.snd h))⟩
def barCells : Finset (GSem nD τ sig) := Finset.univ.map barEmb
def ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)
theorem bar_in (c : Dev nD) : barCell c ∈ barCells := Finset.mem_map_of_mem barEmb (Finset.mem_univ c)
theorem bar_mem (c : Dev nD) : barCell c ∈ barCells ∪ ownCells := Finset.mem_union_left _ (bar_in c)
theorem send_mem (k : Ch) (c : Dev nD) : sendCell k c ∈ barCells ∪ ownCells :=
  Finset.mem_union_right _ (Finset.mem_map_of_mem ownEmb (Finset.mem_univ (c, Sum.inl k)))
theorem recv_mem (k : Ch) (c : Dev nD) : recvCell k c ∈ barCells ∪ ownCells :=
  Finset.mem_union_right _ (Finset.mem_map_of_mem ownEmb (Finset.mem_univ (c, Sum.inr k)))

/-- Every payment, by the counter it is made on: two on a barrier, one on a transfer's counter. -/
def paySem : Bool ⊕ (Ch ⊕ Ch) → SemLoc sig × Bool
  | .inl d => (.reg barS, d)
  | .inr k => (osem k, false)
theorem paySem_inj : Function.Injective paySem := by
  rintro (d | k) (d' | k') h
  · exact congrArg _ (congrArg Prod.snd h)
  · exact absurd (congrArg Prod.fst h).symm (osem_ne_bar k')
  · exact absurd (congrArg Prod.fst h) (osem_ne_bar k)
  · exact congrArg _ (osem_inj (congrArg Prod.fst h))
def payments : Finset (GSem nD τ sig × ℕ × Bool) :=
  Finset.univ.map ⟨fun x : Dev nD × (Bool ⊕ (Ch ⊕ Ch)) => (((x.1 : Thread nD τ), (paySem x.2).1), 0, (paySem x.2).2), fun _ _ h =>
    Prod.ext (congrArg (fun t : GSem nD τ sig × ℕ × Bool => t.1.1.1) h)
      (paySem_inj (Prod.ext (congrArg (fun t : GSem nD τ sig × ℕ × Bool => t.1.2) h) (congrArg (fun t : GSem nD τ sig × ℕ × Bool => t.2.2) h)))⟩

/-! ## What a device is dealt -/

variable (W : Own F)

/-- A transfer's three counters' invariants. -/
def chInv (K : GSem nD τ sig → ℕ) (c : Dev nD) (k : Ch) : sProp 𝕄 :=
  iprop(cellInv ER (Rd W) (K (sendCell k c)) (sendCell k c) ∗ cellInv ER (Rd W) (K (recvCell k c)) (recvCell k c)
    ∗ cellInv ER (Rd W) (K (recvCell k (tgt k c))) (recvCell k (tgt k c)))
instance chInv_persistent (K : GSem nD τ sig → ℕ) (c : Dev nD) (k : Ch) : BI.Persistent (chInv W K c k) := by unfold chInv; infer_instance

/-- The two rights to open a transfer's counters; the tokens of the two payments it makes. -/
def opens (k : Ch) (c : Dev nD) : sProp 𝕄 := iprop(openTok ER (sendCell k c) ∗ openTok ER (recvCell k c))
def pays (k : Ch) (c : Dev nD) : sProp 𝕄 := iprop(dutyTok ER (sendCell k c) 0 false ∗ dutyTok ER (recvCell k (tgt k c)) 0 false)
/-- The barrier's position and the tokens of the two signals. -/
def barLin (c : Dev nD) : sProp 𝕄 :=
  iprop(atPos ER (barCell c) 0 ∅ 0 ∗ dutyTok ER (barCell (prv c)) 0 true ∗ dutyTok ER (barCell (nxt c)) 0 false)
def linear (c : Dev nD) : sProp 𝕄 :=
  iprop(barLin c ∗ (bigSep Finset.univ fun k : Ch => opens k c) ∗ bigSep Finset.univ fun k : Ch => pays k c)
def credits (c : Dev nD) : sProp 𝕄 :=
  iprop(cred (tallyAt (barCell c) () 2) ∗ bigSep Finset.univ fun k : Ch => cred (tallyAt (recvCell k c) () N))
def ghost (c : Dev nD) : sProp 𝕄 :=
  iprop(∃ K, (bigSep Finset.univ fun k : Ch => chInv W K c k) ∗ barPerm W K c ∗ linear c)
/-- Before the kernel, and once it has its counters open. -/
def dealt (c : Dev nD) : sProp 𝕄 := iprop(ghost W c ∗ credits c)
def ready₀ (c : Dev nD) : sProp 𝕄 :=
  iprop(∃ K, perms W K c ∗ barGhost c ∗ (bigSep Finset.univ fun k : Ch => toStart k c) ∗ bigSep Finset.univ fun k : Ch => toRecv k c)

/-! ## Opening -/

theorem openOne (K : GSem nD τ sig → ℕ) (c : Dev nD) (k : Ch) :
    iprop(chInv W K c k ∗ opens k c ∗ pays k c ∗ cred (tallyAt (recvCell k c) () N) ∗ sent k c ∗ recvd k c)
      ⊢ (|={Set.univ}=> iprop(chPerm W K c k ∗ toStart k c ∗ toRecv k c) : sProp 𝕄) := by
  unfold chInv opens pays sent recvd chPerm toStart toRecv
  iintro ⟨⟨#HIs, #HIr, #HIt⟩, ⟨HoS, HoR⟩, ⟨HtS, HtR⟩, Hc, HvS, HvR⟩
  imod (Rounds.cell_open ER (Rd W) (g := sendCell k c) (Set.mem_univ (K (sendCell k c)))) $$ [HoS HvS] with ⟨HaS, #HrS⟩
  · isplitr; · iexact HIs
    isplitl [HoS] <;> iassumption
  imod (Rounds.cell_open ER (Rd W) (g := recvCell k c) (Set.mem_univ (K (recvCell k c)))) $$ [HoR HvR] with ⟨HaR, #HrR⟩
  · isplitr; · iexact HIr
    isplitl [HoR] <;> iassumption
  imodintro
  isplitr
  · isplitr; · iexact HIs
    isplitr; · iexact HIr
    isplitr; · iexact HIt
    isplitr; · iexact HrS
    iexact HrR
  isplitl [HtS HtR HaS]
  · isplitl [HtS]; · iexact HtS
    isplitl [HtR] <;> iassumption
  isplitl [Hc] <;> iassumption

theorem openAll (K : GSem nD τ sig → ℕ) (c : Dev nD) :
    iprop((bigSep Finset.univ fun k : Ch => chInv W K c k) ∗ (bigSep Finset.univ fun k : Ch => opens k c) ∗ (bigSep Finset.univ fun k : Ch => pays k c)
        ∗ (bigSep Finset.univ fun k : Ch => cred (tallyAt (recvCell k c) () N)) ∗ (bigSep Finset.univ fun k : Ch => sent k c)
        ∗ bigSep Finset.univ fun k : Ch => recvd k c)
      ⊢ (|={Set.univ}=> iprop((bigSep Finset.univ fun k : Ch => chPerm W K c k) ∗ (bigSep Finset.univ fun k : Ch => toStart k c)
          ∗ bigSep Finset.univ fun k : Ch => toRecv k c) : sProp 𝕄) := by
  rw [← star_star, ← star_star, ← star_star, ← star_star, ← star_star, ← star_star, ← star_star]
  exact (BI.bigSep_mono fun k _ => openOne W K c k).trans (bigSep_fupd _ _)

theorem ownSems_eq (c : Dev nD) : (Pipeline.ownSems0 osem c : sProp 𝕄)
    = iprop((bigSep Finset.univ fun k : Ch => sent k c) ∗ bigSep Finset.univ fun k : Ch => recvd k c) :=
  BI.bigSep_univ_sum fun x : Ch ⊕ Ch => (semVal ((c : Thread nD τ), osem x) 0 : sProp 𝕄)

theorem ready_of_dealt (c : Dev nD) :
    iprop(dealt W c ∗ Pipeline.ownSems0 osem c ∗ levAts L lv) ⊢ (|={Set.univ}=> ready₀ W c : sProp 𝕄) := by
  rw [ownSems_eq, ← levs_eq]
  unfold dealt ghost linear barLin credits ready₀ perms barGhost
  iintro ⟨⟨⟨%K, HI, #HB, ⟨Hat, Ht, Ht'⟩, Ho, Hp⟩, HcB, Hc⟩, ⟨HvS, HvR⟩, #Hlev⟩
  imod (openAll W K c) $$ [HI Ho Hp Hc HvS HvR] with ⟨HP, HS, HR⟩
  · isplitl [HI]; · iexact HI
    isplitl [Ho]; · iexact Ho
    isplitl [Hp]; · iexact Hp
    isplitl [Hc]; · iexact Hc
    isplitl [HvS] <;> iassumption
  imodintro
  iexists K
  isplitl [HP]
  · isplitl [HP]; · iexact HP
    isplitr; · iexact HB
    iexact Hlev
  isplitl [HcB Hat Ht Ht']
  · isplitl [HcB]; · iexact HcB
    isplitl [Hat]; · iexact Hat
    isplitl [Ht] <;> iassumption
  isplitl [HS] <;> iassumption

/-! ## Dealing -/

/-- What every device may consult at launch: all invariants under one map of names, and that every barrier is open. -/
def records (κ : GSem nD τ sig → ℕ) : sProp 𝕄 :=
  iprop((bigSep (barCells ∪ ownCells) fun g => cellInv ER (Rd W) (κ g) g) ∗ bigSep barCells fun g => reached ER g 0)
instance records_persistent (κ : GSem nD τ sig → ℕ) : BI.Persistent (records W κ) := by unfold records; infer_instance

theorem records_inv (κ : GSem nD τ sig → ℕ) {g : GSem nD τ sig} (hg : g ∈ barCells ∪ ownCells) : records W κ ⊢ cellInv ER (Rd W) (κ g) g := by
  unfold records
  exact BI.Laws.sep_elim_left.trans (bigSep_elim (Φ := fun g => (cellInv ER (Rd W) (κ g) g : sProp 𝕄)) hg)
theorem records_bar (κ : GSem nD τ sig → ℕ) (c : Dev nD) : records W κ ⊢ (reached ER (barCell c) 0 : sProp 𝕄) := by
  unfold records
  exact BI.Laws.sep_elim_right.trans (bigSep_elim (Φ := fun g => (reached ER g 0 : sProp 𝕄)) (bar_in c))

theorem records_ch (κ : GSem nD τ sig → ℕ) (c : Dev nD) (k : Ch) : records W κ ⊢ chInv W κ c k := by
  unfold chInv
  iintro #H
  isplitr; · iapply (records_inv W κ (send_mem k c)) $$ H
  isplitr; · iapply (records_inv W κ (recv_mem k c)) $$ H
  iapply (records_inv W κ (recv_mem k (tgt k c))) $$ H
theorem records_barPerm (κ : GSem nD τ sig → ℕ) (c : Dev nD) : records W κ ⊢ barPerm W κ c := by
  unfold barPerm
  iintro #H
  isplitr; · iapply (records_inv W κ (bar_mem c)) $$ H
  isplitr; · iapply (records_inv W κ (bar_mem (nxt c))) $$ H
  isplitr; · iapply (records_inv W κ (bar_mem (prv c))) $$ H
  isplitr; · iapply (records_bar W κ (nxt c)) $$ H
  iapply (records_bar W κ (prv c)) $$ H

theorem ghost_intro (κ : GSem nD τ sig → ℕ) (c : Dev nD) : iprop(records W κ ∗ linear c) ⊢ ghost W c := by
  unfold ghost
  iintro ⟨#HR, Hl⟩
  iexists κ
  isplitr
  · iapply (bigSep_intro_persistent (S := Finset.univ) (R := records W κ) (Φ := fun k : Ch => chInv W κ c k) fun k _ => records_ch W κ c k) $$ HR
  isplitr; · iapply (records_barPerm W κ c) $$ HR
  iexact Hl

/-- The tokens of all payments on device `c`'s counters. -/
def toks (c : Dev nD) : sProp 𝕄 :=
  iprop((dutyTok ER (barCell c) 0 true ∗ dutyTok ER (barCell c) 0 false)
    ∗ (bigSep Finset.univ fun k : Ch => dutyTok ER (sendCell k c) 0 false) ∗ bigSep Finset.univ fun k : Ch => dutyTok ER (recvCell k c) 0 false)

theorem toks_eq : bigSep payments (fun x => (dutyTok ER x.1 x.2.1 x.2.2 : sProp 𝕄)) = bigSep Finset.univ fun c : Dev nD => toks c := by
  unfold payments; rw [BI.bigSep_map, BI.bigSep_univ_prod]
  refine BI.bigSep_congr fun c _ => ?_
  unfold toks
  rw [BI.bigSep_univ_sum, BI.bigSep_univ_sum, bigSep_univ_eq_bigSepL [true, false] (by decide) (by decide), bigSepL_cons_cons, bigSepL_singleton]
  rfl

/-- Each token goes to the device that makes the payment. -/
theorem toks_around : (bigSep Finset.univ fun c : Dev nD => (toks c : sProp 𝕄))
    = bigSep Finset.univ fun c : Dev nD => iprop((dutyTok ER (barCell (prv c)) 0 true ∗ dutyTok ER (barCell (nxt c)) 0 false)
        ∗ bigSep Finset.univ fun k : Ch => pays k c) := by
  have hR : (bigSep Finset.univ fun c : Dev nD => bigSep Finset.univ fun k : Ch => (dutyTok ER (recvCell k c) 0 false : sProp 𝕄))
      = bigSep Finset.univ fun c : Dev nD => bigSep Finset.univ fun k : Ch => dutyTok ER (recvCell k (tgt k c)) 0 false := by
    rw [BI.bigSep_univ_comm, BI.bigSep_univ_comm (fun (c : Dev nD) (k : Ch) => (dutyTok ER (recvCell k (tgt k c)) 0 false : sProp 𝕄))]
    exact BI.bigSep_congr fun k _ => BI.bigSep_univ_equiv (tgtE k) (fun c : Dev nD => (dutyTok ER (recvCell k c) 0 false : sProp 𝕄))
  have hT : (bigSep Finset.univ fun c : Dev nD => (dutyTok ER (barCell c) 0 true : sProp 𝕄)) = bigSep Finset.univ fun c : Dev nD => dutyTok ER (barCell (prv c)) 0 true :=
    BI.bigSep_univ_equiv ring.symm (fun c : Dev nD => (dutyTok ER (barCell c) 0 true : sProp 𝕄))
  have hF : (bigSep Finset.univ fun c : Dev nD => (dutyTok ER (barCell c) 0 false : sProp 𝕄)) = bigSep Finset.univ fun c : Dev nD => dutyTok ER (barCell (nxt c)) 0 false :=
    BI.bigSep_univ_equiv ring (fun c : Dev nD => (dutyTok ER (barCell c) 0 false : sProp 𝕄))
  unfold toks pays
  simp only [star_star]
  rw [BI.bigSep_sep', BI.bigSep_sep', BI.bigSep_sep', BI.bigSep_sep', BI.bigSep_sep', BI.bigSep_sep', hR, hT, hF]

/-! ### The credits -/

theorem recv_ne_bar (k : Ch) (c d : Dev nD) : recvCell k c ≠ barCell d := fun h => osem_ne_bar (.inr k) (congrArg Prod.snd h)

theorem tally_recv (k k' : Ch) (d c : Dev nD) :
    (tallyAt (recvCell k' (tgt k' d)) () N : CellTallies nD τ sig Unit) (recvCell k c) () = if k' = k ∧ d = org k c then N else 0 := by
  rw [tallyAt_apply]
  by_cases h : k' = k ∧ d = org k c
  · obtain ⟨rfl, rfl⟩ := h; rw [tgt_org, if_pos ⟨rfl, rfl⟩, if_pos ⟨rfl, rfl⟩]
  · rw [if_neg h, if_neg]
    rintro ⟨e, -⟩
    have ek : k' = k := Sum.inr_injective (osem_inj (congrArg Prod.snd e.symm : osem (.inr k') = osem (.inr k)))
    subst ek
    have ed : tgt k' d = c := congrArg (fun g : GSem nD τ sig => g.1.1) e.symm
    exact h ⟨rfl, by rw [← ed, org_tgt]⟩

theorem owed_recv (k : Ch) (d c : Dev nD) : O₀ d (recvCell k c) () = if d = org k c then N else 0 := by
  unfold O₀ owedN
  rw [Pi.add_apply, Finsupp.add_apply, Pi.add_apply, Finsupp.add_apply, tallyAt_ne_cell (recv_ne_bar k c (nxt d)),
    tallyAt_ne_cell (recv_ne_bar k c (prv d)), Finsupp.zero_apply, Nat.add_zero, Nat.add_zero,
    Finset.filter_true_of_mem (fun _ _ => Nat.zero_le _), Finset.sum_apply, Finsupp.finset_sum_apply,
    Finset.sum_congr rfl fun k' _ => tally_recv k k' d c]
  by_cases h : d = org k c
  · simp only [h, and_true, if_true, Finset.sum_ite_eq', Finset.mem_univ]
  · simp only [h, and_false, if_false, Finset.sum_const_zero]

theorem owed_bar (d c : Dev nD) : O₀ d (barCell c) () = (if d = prv c then 1 else 0) + if d = nxt c then 1 else 0 := by
  unfold O₀ owedN
  have e0 : (∑ k ∈ Finset.univ.filter (fun k : Ch => 0 ≤ rank k), tallyAt (recvCell k (tgt k d)) () N : CellTallies nD τ sig Unit) (barCell c) () = 0 := by
    rw [Finset.sum_apply, Finsupp.finset_sum_apply]
    exact Finset.sum_eq_zero fun k _ => by rw [tallyAt_ne_cell (recv_ne_bar k (tgt k d) c).symm]; rfl
  rw [Pi.add_apply, Finsupp.add_apply, Pi.add_apply, Finsupp.add_apply, e0, Nat.zero_add, tallyAt_apply, tallyAt_apply]
  have h1 : (barCell c = barCell (nxt d) ∧ () = ()) ↔ d = prv c := by
    constructor
    · rintro ⟨h, -⟩
      have e : c = nxt d := congrArg (fun g : GSem nD τ sig => g.1.1) h
      rw [e, prv_nxt]
    · rintro rfl; rw [nxt_prv]; exact ⟨rfl, rfl⟩
  have h2 : (barCell c = barCell (prv d) ∧ () = ()) ↔ d = nxt c := by
    constructor
    · rintro ⟨h, -⟩
      have e : c = prv d := congrArg (fun g : GSem nD τ sig => g.1.1) h
      rw [e, nxt_prv]
    · rintro rfl; rw [prv_nxt]; exact ⟨rfl, rfl⟩
  rw [if_congr h1 rfl rfl, if_congr h2 rfl rfl]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem credit_recv (k : Ch) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c,
    Finset.sum_ite_eq' Finset.univ (org k c) fun _ => N, if_pos (Finset.mem_univ _)]

def recvEmb : Ch ↪ SemLoc sig := ⟨fun k => osem (.inr k), fun _ _ h => Sum.inr_injective (osem_inj h)⟩

theorem credits_of_launch (c : Dev nD) : (Pipeline.launchCred O₀ c : sProp 𝕄) ⊢ credits c := by
  unfold Pipeline.launchCred credits
  rw [BI.bigSep_univ_at _ (SemLoc.reg barS), credit_bar]
  refine sep_mono_right ?_
  refine (BI.bigSep_subset (t := Finset.univ.map recvEmb) fun sm h => ?_).trans ?_
  · obtain ⟨k, -, rfl⟩ := Finset.mem_map.mp h
    exact Finset.mem_erase.mpr ⟨osem_ne_bar (.inr k), Finset.mem_univ _⟩
  · rw [BI.bigSep_map]
    exact BI.bigSep_mono fun k _ => Entails.of_eq (congrArg cred (credit_recv k c))

end Cert.KernelIdeal.Hand

end
-- ==== Proof.Region.lean ====
/-
  The kernel as one region of @main: what its operands and scratch hold before and after, its body's run read as the
  region's obligation, and the region's record.
-/
module

public import proofs.«01_k».proof.Proof.Deal
public import proofs.«01_k».proof.Proof.Gen.KernelIdeal.Frame
public import Idealize.ShloMosaic.Lib.Pipeline.Value
public import Idealize.ShloMosaic.Lib.Pipeline.ValueKit.Geometry

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F]

local notation "𝕄" => MT nD τ sig Unit (Elt F) ℕ UU ℕ

/-! ## The slots, whole and in halves -/

section Slots

variable (W : Own F)

theorem halfR_off {x y : Fin 8 × Bool} (h : x ≠ y) : Disjoint (dst (.inl x)).view.set (dst (.inl y)).view.set := by
  obtain ⟨j, s⟩ := x; obtain ⟨j', s'⟩ := y
  refine Finset.disjoint_left.mpr fun i hi hi' => ?_
  have a := (mem_halfR j s i).mp hi
  have b := (mem_halfR j' s' i).mp hi'
  have ej : j = j' := Fin.ext (a.1.symm.trans b.1)
  subst ej
  refine h (Prod.ext rfl ?_)
  have a1 := a.2; have b1 := b.2
  cases s <;> cases s'
  · rfl
  · exact absurd (Nat.lt_of_lt_of_le a1.2 b1.1) (Nat.lt_irrefl _)
  · exact absurd (Nat.lt_of_lt_of_le b1.2 a1.1) (Nat.lt_irrefl _)
  · rfl
theorem halfL_off {x y : Fin 7 × Bool} (h : x ≠ y) : Disjoint (dst (.inr x)).view.set (dst (.inr y)).view.set := by
  obtain ⟨j, s⟩ := x; obtain ⟨j', s'⟩ := y
  refine Finset.disjoint_left.mpr fun i hi hi' => ?_
  have a := (mem_halfL j s i).mp hi
  have b := (mem_halfL j' s' i).mp hi'
  have ej : j = j' := Fin.ext (a.1.symm.trans b.1)
  subst ej
  refine h (Prod.ext rfl ?_)
  have a1 := a.2; have b1 := b.2
  cases s <;> cases s'
  · rfl
  · exact absurd (Nat.lt_of_lt_of_le a1.2 b1.1) (Nat.lt_irrefl _)
  · exact absurd (Nat.lt_of_lt_of_le b1.2 a1.1) (Nat.lt_irrefl _)
  · rfl

theorem halvesR_cover : (Finset.univ : Finset (Fin 8 × Bool)).biUnion (fun x => (dst (.inl x)).view.set) = (Finset.univ : Finset S8x3072x256.Idx) := by
  refine Finset.eq_univ_of_forall fun i => Finset.mem_biUnion.mpr ⟨(i 0, decide (1536 ≤ (i 1).val)), Finset.mem_univ _, ?_⟩
  refine (mem_halfR (i 0) _ i).mpr ?_
  have h1 : (i 1).val < 3072 := (i 1).isLt
  by_cases h : 1536 ≤ (i 1).val
  · rw [decide_eq_true h]; exact ⟨rfl, h, by show _ < 1536 + 1536; omega⟩
  · rw [decide_eq_false h]; exact ⟨rfl, Nat.zero_le _, by show _ < 0 + 1536; omega⟩
theorem halvesL_cover : (Finset.univ : Finset (Fin 7 × Bool)).biUnion (fun x => (dst (.inr x)).view.set) = (Finset.univ : Finset S7x3072x256.Idx) := by
  refine Finset.eq_univ_of_forall fun i => Finset.mem_biUnion.mpr ⟨(i 0, decide (1536 ≤ (i 1).val)), Finset.mem_univ _, ?_⟩
  refine (mem_halfL (i 0) _ i).mpr ?_
  have h1 : (i 1).val < 3072 := (i 1).isLt
  by_cases h : 1536 ≤ (i 1).val
  · rw [decide_eq_true h]; exact ⟨rfl, h, by show _ < 1536 + 1536; omega⟩
  · rw [decide_eq_false h]; exact ⟨rfl, Nat.zero_le _, by show _ < 0 + 1536; omega⟩

theorem splitR (c : Dev nD) (f : Buf (Elt F) (gR.view.loc (c : Thread nD τ))) :
    (buf gR c fullShare f : sProp 𝕄) = bigSep Finset.univ fun x : Fin 8 × Bool => dPts (.inl x) c fullShare f := by
  show ((gR.view.loc (c : Thread nD τ)) ↦[(Finset.univ : Finset S8x3072x256.Idx)]{fullShare} f : sProp 𝕄) = _
  rw [← halvesR_cover]
  exact pointsTo_biUnion (Ix := Unit) (Val := Elt F) (Name := ℕ) (U := UU) (Lvl := ℕ) (ℓ := gR.view.loc (c : Thread nD τ)) (q := fullShare) (f := f)
    Finset.univ (fun x : Fin 8 × Bool => (dst (.inl x)).view.set) (fun x _ y _ h => halfR_off h)
theorem splitL (c : Dev nD) (f : Buf (Elt F) (gL.view.loc (c : Thread nD τ))) :
    (buf gL c fullShare f : sProp 𝕄) = bigSep Finset.univ fun x : Fin 7 × Bool => dPts (.inr x) c fullShare f := by
  show ((gL.view.loc (c : Thread nD τ)) ↦[(Finset.univ : Finset S7x3072x256.Idx)]{fullShare} f : sProp 𝕄) = _
  rw [← halvesL_cover]
  exact pointsTo_biUnion (Ix := Unit) (Val := Elt F) (Name := ℕ) (U := UU) (Lvl := ℕ) (ℓ := gL.view.loc (c : Thread nD τ)) (q := fullShare) (f := f)
    Finset.univ (fun x : Fin 7 × Bool => (dst (.inr x)).view.set) (fun x _ y _ h => halfL_off h)

theorem anyHalf_intro (k : Ch) (c : Dev nD) (f) : iprop(dPts k c fullShare f) ⊢ (anyHalf k c : sProp 𝕄) := by
  unfold anyHalf
  iintro H; iexists f; iexact H

theorem anyHalves (c : Dev nD) :
    iprop((∃ f, buf gR c fullShare f) ∗ ∃ f, buf gL c fullShare f) ⊢ (bigSep Finset.univ fun k : Ch => anyHalf k c : sProp 𝕄) := by
  rw [star_sum (fun k : Ch => (anyHalf k c : sProp 𝕄))]
  have hR (f : Buf (Elt F) (gR.view.loc (c : Thread nD τ))) : (buf gR c fullShare f : sProp 𝕄) ⊢ bigSep Finset.univ fun x : Fin 8 × Bool => anyHalf (.inl x) c := by
    rw [splitR]
    refine BI.bigSep_mono fun x _ => ?_
    exact anyHalf_intro (.inl x) c f
  have hL (f : Buf (Elt F) (gL.view.loc (c : Thread nD τ))) : (buf gL c fullShare f : sProp 𝕄) ⊢ bigSep Finset.univ fun x : Fin 7 × Bool => anyHalf (.inr x) c := by
    rw [splitL]
    refine BI.bigSep_mono fun x _ => ?_
    exact anyHalf_intro (.inr x) c f
  iintro ⟨⟨%f, HR⟩, ⟨%g, HL⟩⟩
  isplitl [HR]
  · iapply (hR f) $$ HR
  · iapply (hL g) $$ HL

theorem wholeSlots (c : Dev nD) :
    (bigSep Finset.univ fun k : Ch => full W k c : sProp 𝕄) ⊢ iprop((∃ f, buf gR c fullShare f) ∗ ∃ f, buf gL c fullShare f) := by
  rw [star_sum (fun k : Ch => (full W k c : sProp 𝕄)),
    show (bigSep Finset.univ fun x : Fin 8 × Bool => (full W (.inl x) c : sProp 𝕄)) = buf gR c fullShare (GR W c) from (splitR c (GR W c)).symm,
    show (bigSep Finset.univ fun x : Fin 7 × Bool => (full W (.inr x) c : sProp 𝕄)) = buf gL c fullShare (GL W c) from (splitL c (GL W c)).symm]
  iintro ⟨HR, HL⟩
  isplitl [HR]
  · iexists _; iexact HR
  · iexists _; iexact HL

end Slots

/-! ## The region's data -/

variable (m : (ℓ : Loc nD τ sig) → Buf (Elt F) ℓ) (ρ : Dev nD → PrngReg)

/-- Every device's own chunk when the kernel is entered; the whole result there. -/
def own₀ : Own F := fun c => V m c main_v34
def res (c : Dev nD) : FVec F S512x768 .f32 := outOf (own₀ m) (V m c main_v36) (V m c main_v28) (V m c main_v31) (V m c main_cst) c

/-- The scratch: the slots and the heads' buffer, at whatever they hold. -/
def scratch (c : Dev nD) : sProp 𝕄 := iprop((∃ f, buf gR c fullShare f) ∗ (∃ f, buf gL c fullShare f) ∗ ∃ f, buf cM c fullShare f)

theorem scopedRest_eq (c : Dev nD) : (Pipeline.scopedRest spec0 c : sProp 𝕄) = scratch c := scopedRest0_eq c

def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => res m c
    | ⟨_ + 6, h⟩ => absurd h (Nat.not_lt.2 (Nat.le_add_left _ _))
  Φ t := if t.val = 0 then iprop(ready₀ (own₀ m) c ∗ scratch c ∗ ∃ r, prngReg c r)
    else iprop(semVal (barCell c) 0 ∗ Pipeline.ownSems0 osem c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

theorem Φ_first (c : Dev nD) : (dat m c).Φ t0_0.castSucc = iprop(ready₀ (own₀ m) c ∗ scratch c ∗ ∃ r, prngReg c r) := rfl
theorem Φ_last (c : Dev nD) : (dat m c).Φ t0_0.succ = iprop(semVal (barCell c) 0 ∗ Pipeline.ownSems0 osem c ∗ scratch c ∗ ∃ r, prngReg c r) := rfl

theorem blk0 (f : main_v36.ty.Contents (Elt F)) : ((cfg0.win 0).blk t0_0).view.read (Elt F) f = f := by
  funext y
  refine congrArg f (funext fun a => Fin.ext ?_)
  refine (ValueKit.view_emb_slice_whole_unit_val main_v36 _ _ _ y a).trans ?_
  show 0 * _ + (y a).val = (y a).val
  rw [Nat.zero_mul, Nat.zero_add]
theorem blk1 (f : main_v34.ty.Contents (Elt F)) : ((cfg0.win 1).blk t0_0).view.read (Elt F) f = f := by
  funext y
  refine congrArg f (funext fun a => Fin.ext ?_)
  refine (ValueKit.view_emb_slice_whole_unit_val main_v34 _ _ _ y a).trans ?_
  show 0 * _ + (y a).val = (y a).val
  rw [Nat.zero_mul, Nat.zero_add]
theorem blk2 (f : main_cst.ty.Contents (Elt F)) : ((cfg0.win 2).blk t0_0).view.read (Elt F) f = f := by
  funext y
  refine congrArg f (funext fun a => Fin.ext ?_)
  refine (ValueKit.view_emb_slice_whole_unit_val main_cst _ _ _ y a).trans ?_
  show 0 * _ + (y a).val = (y a).val
  rw [Nat.zero_mul, Nat.zero_add]
theorem blk3 (f : main_v28.ty.Contents (Elt F)) : ((cfg0.win 3).blk t0_0).view.read (Elt F) f = f := by
  funext y
  refine congrArg f (funext fun a => Fin.ext ?_)
  refine (ValueKit.view_emb_slice_whole_unit_val main_v28 _ _ _ y a).trans ?_
  show 0 * _ + (y a).val = (y a).val
  rw [Nat.zero_mul, Nat.zero_add]
theorem blk4 (f : main_v31.ty.Contents (Elt F)) : ((cfg0.win 4).blk t0_0).view.read (Elt F) f = f := by
  funext y
  refine congrArg f (funext fun a => Fin.ext ?_)
  refine (ValueKit.view_emb_slice_whole_unit_val main_v31 _ _ _ y a).trans ?_
  show 0 * _ + (y a).val = (y a).val
  rw [Nat.zero_mul, Nat.zero_add]
theorem blk5 (f : main_v37.ty.Contents (Elt F)) : ((cfg0.win 5).blk t0_0).view.read (Elt F) f = f := by
  funext y
  refine congrArg f (funext fun a => Fin.ext ?_)
  refine (ValueKit.view_emb_slice_whole_unit_val main_v37 _ _ _ y a).trans ?_
  show 0 * _ + (y a).val = (y a).val
  rw [Nat.zero_mul, Nat.zero_add]

/-! ## The body's obligation -/

theorem before0 (c : Dev nD) (d) : (dat m c).before 0 t0_0 d = V m c main_v36 :=
  ((dat m c).before_in_eq_fetched 0 rfl (fun _ => rfl) (fun _ _ _ => rfl) (fun _ => rfl) t0_0 d).trans (blk0 (V m c main_v36))
theorem after0 (c : Dev nD) : (dat m c).after 0 t0_0 = V m c main_v36 := blk0 (V m c main_v36)
theorem in0 (c : Dev nD) : iprop(∃ d, owns (c : Thread nD τ) ((cfg0.win 0).stage (cfg0.slots t0_0 0)) fullShare ((dat m c).before 0 t0_0 d))
    ⊢ (buf xM c fullShare (V m c main_v36) : sProp 𝕄) := by
  iintro ⟨%d, H⟩
  rw [before0]
  have e : (owns (c : Thread nD τ) ((cfg0.win 0).stage (cfg0.slots t0_0 0)) fullShare (V m c main_v36) : sProp 𝕄) = buf xM c fullShare (V m c main_v36) :=
    owns_whole (c : Thread nD τ) cc0_stg0_0 fullShare (V m c main_v36)
  iapply (Entails.of_eq e) $$ H
theorem out0 (c : Dev nD) : iprop(buf xM c fullShare (V m c main_v36))
    ⊢ (owns (c : Thread nD τ) ((cfg0.win 0).stage (cfg0.slots t0_0 0)) fullShare ((dat m c).after 0 t0_0) : sProp 𝕄) := by
  rw [after0]
  exact Entails.of_eq (owns_whole (c : Thread nD τ) cc0_stg0_0 fullShare (V m c main_v36)).symm
theorem before1 (c : Dev nD) (d) : (dat m c).before 1 t0_0 d = V m c main_v34 :=
  ((dat m c).before_in_eq_fetched 1 rfl (fun _ => rfl) (fun _ _ _ => rfl) (fun _ => rfl) t0_0 d).trans (blk1 (V m c main_v34))
theorem after1 (c : Dev nD) : (dat m c).after 1 t0_0 = V m c main_v34 := blk1 (V m c main_v34)
theorem in1 (c : Dev nD) : iprop(∃ d, owns (c : Thread nD τ) ((cfg0.win 1).stage (cfg0.slots t0_0 1)) fullShare ((dat m c).before 1 t0_0 d))
    ⊢ (buf wM c fullShare (V m c main_v34) : sProp 𝕄) := by
  iintro ⟨%d, H⟩
  rw [before1]
  have e : (owns (c : Thread nD τ) ((cfg0.win 1).stage (cfg0.slots t0_0 1)) fullShare (V m c main_v34) : sProp 𝕄) = buf wM c fullShare (V m c main_v34) :=
    owns_whole (c : Thread nD τ) cc0_stg1_0 fullShare (V m c main_v34)
  iapply (Entails.of_eq e) $$ H
theorem out1 (c : Dev nD) : iprop(buf wM c fullShare (V m c main_v34))
    ⊢ (owns (c : Thread nD τ) ((cfg0.win 1).stage (cfg0.slots t0_0 1)) fullShare ((dat m c).after 1 t0_0) : sProp 𝕄) := by
  rw [after1]
  exact Entails.of_eq (owns_whole (c : Thread nD τ) cc0_stg1_0 fullShare (V m c main_v34)).symm
theorem before2 (c : Dev nD) (d) : (dat m c).before 2 t0_0 d = V m c main_cst :=
  ((dat m c).before_in_eq_fetched 2 rfl (fun _ => rfl) (fun _ _ _ => rfl) (fun _ => rfl) t0_0 d).trans (blk2 (V m c main_cst))
theorem after2 (c : Dev nD) : (dat m c).after 2 t0_0 = V m c main_cst := blk2 (V m c main_cst)
theorem in2 (c : Dev nD) : iprop(∃ d, owns (c : Thread nD τ) ((cfg0.win 2).stage (cfg0.slots t0_0 2)) fullShare ((dat m c).before 2 t0_0 d))
    ⊢ (buf pM c fullShare (V m c main_cst) : sProp 𝕄) := by
  iintro ⟨%d, H⟩
  rw [before2]
  have e : (owns (c : Thread nD τ) ((cfg0.win 2).stage (cfg0.slots t0_0 2)) fullShare (V m c main_cst) : sProp 𝕄) = buf pM c fullShare (V m c main_cst) :=
    owns_whole (c : Thread nD τ) cc0_stg2_0 fullShare (V m c main_cst)
  iapply (Entails.of_eq e) $$ H
theorem out2 (c : Dev nD) : iprop(buf pM c fullShare (V m c main_cst))
    ⊢ (owns (c : Thread nD τ) ((cfg0.win 2).stage (cfg0.slots t0_0 2)) fullShare ((dat m c).after 2 t0_0) : sProp 𝕄) := by
  rw [after2]
  exact Entails.of_eq (owns_whole (c : Thread nD τ) cc0_stg2_0 fullShare (V m c main_cst)).symm
theorem before3 (c : Dev nD) (d) : (dat m c).before 3 t0_0 d = V m c main_v28 :=
  ((dat m c).before_in_eq_fetched 3 rfl (fun _ => rfl) (fun _ _ _ => rfl) (fun _ => rfl) t0_0 d).trans (blk3 (V m c main_v28))
theorem after3 (c : Dev nD) : (dat m c).after 3 t0_0 = V m c main_v28 := blk3 (V m c main_v28)
theorem in3 (c : Dev nD) : iprop(∃ d, owns (c : Thread nD τ) ((cfg0.win 3).stage (cfg0.slots t0_0 3)) fullShare ((dat m c).before 3 t0_0 d))
    ⊢ (buf csM c fullShare (V m c main_v28) : sProp 𝕄) := by
  iintro ⟨%d, H⟩
  rw [before3]
  have e : (owns (c : Thread nD τ) ((cfg0.win 3).stage (cfg0.slots t0_0 3)) fullShare (V m c main_v28) : sProp 𝕄) = buf csM c fullShare (V m c main_v28) :=
    owns_whole (c : Thread nD τ) cc0_stg3_0 fullShare (V m c main_v28)
  iapply (Entails.of_eq e) $$ H
theorem out3 (c : Dev nD) : iprop(buf csM c fullShare (V m c main_v28))
    ⊢ (owns (c : Thread nD τ) ((cfg0.win 3).stage (cfg0.slots t0_0 3)) fullShare ((dat m c).after 3 t0_0) : sProp 𝕄) := by
  rw [after3]
  exact Entails.of_eq (owns_whole (c : Thread nD τ) cc0_stg3_0 fullShare (V m c main_v28)).symm
theorem before4 (c : Dev nD) (d) : (dat m c).before 4 t0_0 d = V m c main_v31 :=
  ((dat m c).before_in_eq_fetched 4 rfl (fun _ => rfl) (fun _ _ _ => rfl) (fun _ => rfl) t0_0 d).trans (blk4 (V m c main_v31))
theorem after4 (c : Dev nD) : (dat m c).after 4 t0_0 = V m c main_v31 := blk4 (V m c main_v31)
theorem in4 (c : Dev nD) : iprop(∃ d, owns (c : Thread nD τ) ((cfg0.win 4).stage (cfg0.slots t0_0 4)) fullShare ((dat m c).before 4 t0_0 d))
    ⊢ (buf snM c fullShare (V m c main_v31) : sProp 𝕄) := by
  iintro ⟨%d, H⟩
  rw [before4]
  have e : (owns (c : Thread nD τ) ((cfg0.win 4).stage (cfg0.slots t0_0 4)) fullShare (V m c main_v31) : sProp 𝕄) = buf snM c fullShare (V m c main_v31) :=
    owns_whole (c : Thread nD τ) cc0_stg4_0 fullShare (V m c main_v31)
  iapply (Entails.of_eq e) $$ H
theorem out4 (c : Dev nD) : iprop(buf snM c fullShare (V m c main_v31))
    ⊢ (owns (c : Thread nD τ) ((cfg0.win 4).stage (cfg0.slots t0_0 4)) fullShare ((dat m c).after 4 t0_0) : sProp 𝕄) := by
  rw [after4]
  exact Entails.of_eq (owns_whole (c : Thread nD τ) cc0_stg4_0 fullShare (V m c main_v31)).symm
theorem in5 (c : Dev nD) : iprop(∃ d, owns (c : Thread nD τ) ((cfg0.win 5).stage (cfg0.slots t0_0 5)) fullShare ((dat m c).before 5 t0_0 d))
    ⊢ (iprop(∃ f, buf oM c fullShare f) : sProp 𝕄) := by
  iintro ⟨%d, H⟩
  iexists ((dat m c).before 5 t0_0 d)
  have e : (owns (c : Thread nD τ) ((cfg0.win 5).stage (cfg0.slots t0_0 5)) fullShare ((dat m c).before 5 t0_0 d) : sProp 𝕄) = buf oM c fullShare ((dat m c).before 5 t0_0 d) :=
    owns_whole (c : Thread nD τ) cc0_stg5_0 fullShare ((dat m c).before 5 t0_0 d)
  iapply (Entails.of_eq e) $$ H
theorem owns5 (c : Dev nD) (f : Buf (Elt F) (oM.view.loc (c : Thread nD τ))) :
    (owns (c : Thread nD τ) ((cfg0.win 5).stage (cfg0.slots t0_0 5)) fullShare f : sProp 𝕄) = buf oM c fullShare f := owns_whole (c : Thread nD τ) cc0_stg5_0 fullShare f
theorem after5 (c : Dev nD) : (dat m c).after 5 t0_0 = res m c := by dsimp only [dat]
theorem out5 (c : Dev nD) : iprop(buf oM c fullShare (res m c))
    ⊢ (owns (c : Thread nD τ) ((cfg0.win 5).stage (cfg0.slots t0_0 5)) fullShare ((dat m c).after 5 t0_0) : sProp 𝕄) := by
  rw [after5]
  exact Entails.of_eq (owns5 c (res m c)).symm

theorem owesAt_of {c : Dev nD} (dt : Dat τ (Elt F) Unit ℕ UU ℕ cfg0 c) (t : Fin (cfg0.N + 1)) (O : CellTallies nD τ sig Unit)
    (h : dt.owed t = O) (hr : dt.recorded t = Set.univ) (Wt : Waits sig Unit) :
    iprop(owes (c : Thread nD τ) O Wt) ⊢ (dt.owesAt () t : sProp 𝕄) := by
  unfold Dat.owesAt Pipeline.owesWithin Dat.bound
  rw [h, hr]
  iintro H
  iexists Wt
  isplitr
  · ipureintro; exact fun _ _ => Or.inl trivial
  · iexact H
theorem of_owesAt {c : Dev nD} (dt : Dat τ (Elt F) Unit ℕ UU ℕ cfg0 c) (t : Fin (cfg0.N + 1)) (O : CellTallies nD τ sig Unit)
    (h : dt.owed t = O) : (dt.owesAt () t : sProp 𝕄) ⊢ iprop(∃ Wt, owes (c : Thread nD τ) O Wt) := by
  unfold Dat.owesAt Pipeline.owesWithin
  rw [h]
  iintro ⟨%Wt, -, H⟩
  iexists Wt; iexact H

theorem owed_first (c : Dev nD) : (dat m c).owed t0_0.castSucc = O₀ c := rfl
theorem owed_last (c : Dev nD) : (dat m c).owed t0_0.succ = 0 := rfl

/-- What the body starts from, gathered out of the region's. -/
theorem body_in (c : Dev nD) : iprop((dat m c).Φ t0_0.castSucc ∗ (dat m c).owesAt () t0_0.castSucc
      ∗ buf xM c fullShare (V m c main_v36) ∗ buf wM c fullShare (V m c main_v34) ∗ buf pM c fullShare (V m c main_cst)
      ∗ buf csM c fullShare (V m c main_v28) ∗ buf snM c fullShare (V m c main_v31) ∗ ∃ f, buf oM c fullShare f)
    ⊢ (iprop((∃ r, prngReg c r) ∗ ∃ K, ∃ Wt, bodyPre (own₀ m) K (V m c main_v36) (V m c main_v28) (V m c main_v31) (V m c main_cst) c Wt) : sProp 𝕄) := by
  rw [Φ_first]
  unfold ready₀ scratch bodyPre readOnly
  iintro ⟨⟨⟨%K, HP, HB, Hst, Hrc⟩, ⟨HgR, HgL, HcM⟩, Hreg⟩, HO, Hx, Hw, Hp, Hcs, Hsn, Ho⟩
  ihave HO' := (of_owesAt (dat m c) _ (O₀ c) (owed_first m c)) $$ HO
  icases HO' with ⟨%Wt, HO⟩
  isplitl [Hreg]; · iexact Hreg
  iexists K; iexists Wt
  isplitl [HP]; · iexact HP
  isplitl [HB]; · iexact HB
  isplitl [HO]; · iexact HO
  isplitl [Hst]; · iexact Hst
  isplitl [Hrc]; · iexact Hrc
  isplitl [HgR HgL]
  · iapply (anyHalves c)
    isplitl [HgR]
    · iexact HgR
    · iexact HgL
  isplitl [Hx Hcs Hsn Hp]
  · isplitl [Hx]; · iexact Hx
    isplitl [Hcs]; · iexact Hcs
    isplitl [Hsn]; · iexact Hsn
    iexact Hp
  isplitl [Hw]; · iexact Hw
  isplitl [HcM]; · iexact HcM
  iexact Ho

/-- What it leaves, given back. -/
theorem body_out (c : Dev nD) : iprop((∃ r, prngReg c r) ∗ bodyPost (own₀ m) (V m c main_v36) (V m c main_v28) (V m c main_v31) (V m c main_cst) c)
    ⊢ (iprop((dat m c).Φ t0_0.succ ∗ (dat m c).owesAt () t0_0.succ
      ∗ buf xM c fullShare (V m c main_v36) ∗ buf wM c fullShare (V m c main_v34) ∗ buf pM c fullShare (V m c main_cst)
      ∗ buf csM c fullShare (V m c main_v28) ∗ buf snM c fullShare (V m c main_v31) ∗ buf oM c fullShare (res m c)) : sProp 𝕄) := by
  rw [Φ_last, ownSems_eq]
  unfold bodyPost readOnly scratch owing res
  rw [owedN_last]
  iintro ⟨Hreg, Hb, Hs, Hr, Hsl, ⟨Hx, Hcs, Hsn, Hp⟩, Hw, HcM, Ho, ⟨%Wt, HO⟩⟩
  ihave Hsl' := (wholeSlots (own₀ m) c) $$ Hsl
  icases Hsl' with ⟨HgR, HgL⟩
  isplitl [Hb Hs Hr HgR HgL HcM Hreg]
  · isplitl [Hb]; · iexact Hb
    isplitl [Hs Hr]
    · isplitl [Hs]
      · iexact Hs
      · iexact Hr
    isplitl [HgR HgL HcM]
    · isplitl [HgR]; · iexact HgR
      isplitl [HgL]; · iexact HgL
      iexact HcM
    iexact Hreg
  isplitl [HO]
  · iapply (owesAt_of (dat m c) _ 0 (owed_last m c) rfl Wt) $$ HO
  isplitl [Hx]; · iexact Hx
  isplitl [Hw]; · iexact Hw
  isplitl [Hp]; · iexact Hp
  isplitl [Hcs]; · iexact Hcs
  isplitl [Hsn]; · iexact Hsn
  iexact Ho

theorem program_eq : defs₀ (F := F) .tc cfg0.body (cfg0.bodyArgs t0_0 (cfg0.slots t0_0))
    = bodyProg xM wM (Memref.isWhole_whole _) pM csM snM oM gR (Memref.isWhole_whole _) gL (Memref.isWhole_whole _) cM (Memref.isWhole_whole _)
        cc0_scratch3 cc0_scratch4 cc0_scratch5 cc0_scratch6 := rfl

theorem body_obl (c : Dev nD) : BodyObligation (dat m c) (defs₀ (F := F)) 𝒱₀ () Set.univ := fun t => by
  obtain rfl := fin_N0 t
  rw [bigSep_W0, bigSep_W0, program_eq]
  iintro ⟨HΦ, HO, H0, H1, H2, H3, H4, H5⟩
  ihave H0 := (in0 m c) $$ H0
  ihave H1 := (in1 m c) $$ H1
  ihave H2 := (in2 m c) $$ H2
  ihave H3 := (in3 m c) $$ H3
  ihave H4 := (in4 m c) $$ H4
  ihave H5 := (in5 m c) $$ H5
  ihave H := (body_in m c) $$ [HΦ HO H0 H1 H2 H3 H4 H5]
  · isplitl [HΦ]; · iexact HΦ
    isplitl [HO]; · iexact HO
    isplitl [H0]; · iexact H0
    isplitl [H1]; · iexact H1
    isplitl [H2]; · iexact H2
    isplitl [H3]; · iexact H3
    isplitl [H4]; · iexact H4
    iexact H5
  icases H with ⟨Hreg, ⟨%K, ⟨%Wt, H⟩⟩⟩
  iapply (body_run (own₀ m) K (V m c main_v36) (V m c main_v28) (V m c main_v31) (V m c main_cst) c Wt _)
  isplitl [H]; · iexact H
  iintro HQ
  ihave HR := (body_out m c) $$ [Hreg HQ]
  · isplitl [Hreg]; · iexact Hreg
    iexact HQ
  icases HR with ⟨HΦ, HO, H0, H1, H2, H3, H4, H5⟩
  isplitl [HΦ]; · iexact HΦ
  isplitl [HO]; · iexact HO
  isplitl [H0]; · iapply (out0 m c) $$ H0
  isplitl [H1]; · iapply (out1 m c) $$ H1
  isplitl [H2]; · iapply (out2 m c) $$ H2
  isplitl [H3]; · iapply (out3 m c) $$ H3
  isplitl [H4]; · iapply (out4 m c) $$ H4
  iapply (out5 m c) $$ H5

end Cert.KernelIdeal.Hand

end
-- ==== Proof.Launch.lean ====
/-
  @main as its three parts, the launch that funds them, and the run: from any memory with zero counters every fair
  execution ends with the result in place, the arguments unchanged and every counter at zero.
-/
module

public import proofs.«01_k».proof.Proof.Region
public import Idealize.ShloMosaic.Lib.Pipeline.RegionTalk
public import Idealize.ShloMosaic.Lib.StableHlo.Run
public import Idealize.ShloMosaic.Lib.StableHlo.RunLoop

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the buffers hold between the parts -/

theorem after_app {l₁ l₂ : List (HloOp τ sig (Elt F))} (V : Valuation τ sig (Elt F)) :
    StableHlo.after (l₁ ++ l₂) V = StableHlo.after l₂ (StableHlo.after l₁ V) := by
  induction l₁ generalizing V with
  | nil => rfl
  | cons op l ih => exact ih _

def A0 (c : Dev nD) : Valuation τ sig (Elt F) := fun b => m (c, b)
def A1 (c : Dev nD) : Valuation τ sig (Elt F) := StableHlo.after hostOps0 (A0 m c)
theorem V0_eq (c : Dev nD) : V0 m c = A1 m c := by
  show StableHlo.after (hostOps0 ++ []) (A0 m c) = _
  rw [after_app]; rfl

/-- Across the region the arrays end at what the region leaves. -/
def B0 (c : Dev nD) : Valuation τ sig (Elt F) := Pipeline.withArrays spec0 c (A1 m c) fun w => (dat m c).arrAt w cfg0.N
def B1 (c : Dev nD) : Valuation τ sig (Elt F) := StableHlo.after hostOps1 (B0 m c)

theorem arr_in (c : Dev nD) (w : Fin cfg0.W) : (dat m c).arrAt w 0 = A1 m c (Proc.devRef .tc (Pipeline.arrRef spec0 w)) := by
  rw [← V0_eq]; rfl
theorem arr_out (c : Dev nD) (w : Fin cfg0.W) : (dat m c).arrAt w cfg0.N = B0 m c (Proc.devRef .tc (Pipeline.arrRef spec0 w)) :=
  (Pipeline.withArrays_arr spec0 winFacts0.arr_inj c (A1 m c) (fun w => (dat m c).arrAt w cfg0.N) w).symm

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_zero (c : Dev nD) : (pdats m 0 c).owed 0 = O₀ c := rfl
theorem owed_end (c : Dev nD) : (pdats m 0 c).owed (Fin.last _) = 0 := rfl

theorem share_full (c : Dev nD) (w : Fin cfg0.W) : (dat m c).share w = fullShare := by
  unfold Dat.share; split <;> rfl

theorem cutD (c : Dev nD) (t : Fin (cfg0.N + 1)) (g : GSem nD τ sig) (i : Unit) (h : 0 < (dat m c).owed t g i) :
    i ∈ L g ∧ (0 : ℕ) < lv g i := by
  have e : (dat m c).owed t = if t.val = 0 then O₀ c else 0 := rfl
  rw [e] at h
  split at h
  · rcases O₀_pos h with ⟨k, rfl⟩ | rfl | rfl
    · exact ⟨by rw [L_tc]; exact Finset.mem_singleton_self _, by show 0 < lvS (.dma (recvS k)); rw [lvS_recv]; omega⟩
    · exact ⟨by rw [L_tc]; exact Finset.mem_singleton_self _, Nat.zero_lt_one⟩
    · exact ⟨by rw [L_tc]; exact Finset.mem_singleton_self _, Nat.zero_lt_one⟩
  · exact absurd h (Nat.lt_irrefl 0)

theorem stage_level : ∀ (w : Fin cfg0.W) (s : Fin (cfg0.win w).nbuf), lvS (.dma ((cfg0.win w).sem s)) = 0 := by decide

/-- The buffers that are no array of the region. -/
def offArrays : Finset (DevRef τ sig) := Pipeline.ucRefs τ sig \ Pipeline.arrRefs spec0
theorem held_split (c : Dev nD) (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) offArrays V) :=
  StableHlo.held_sub_split (c : Thread nD τ) (Pipeline.arrRefs_sub_ucRefs spec0 winFacts0.arr_unscoped) V
theorem held_none (c : Dev nD) (V : Valuation τ sig (Elt F)) : (StableHlo.held (c : Thread nD τ) ∅ V : sProp 𝕄) = iprop(emp) := BI.bigSep_empty

theorem off_same (c : Dev nD) (b : DevRef τ sig) (hb : b ∈ offArrays) : B0 m c b = A1 m c b := by
  have hb' := (Finset.mem_sdiff.mp hb).2
  unfold B0 Pipeline.withArrays
  rw [dif_neg]
  rintro ⟨w, e⟩
  refine hb' ?_
  rw [← e]
  exact Finset.mem_image_of_mem (fun w => (Proc.devRef .tc (Pipeline.arrRef spec0 w) : DevRef τ sig)) (Finset.mem_univ w)

theorem region_in (c : Dev nD) :
    iprop(Pipeline.scopedRest spec0 c ∗ (∃ r, prngReg c r) ∗ StableHlo.held (c.tc : Thread nD τ) ∅ (A1 m c) ∗ ready₀ (own₀ m) c)
      ⊢ ((pdats m 0 c).Φ 0 : sProp 𝕄) := by
  rw [show (pdats m 0 c).Φ 0 = iprop(ready₀ (own₀ m) c ∗ scratch c ∗ ∃ r, prngReg c r) from rfl, scopedRest_eq]
  iintro ⟨Hs, Hp, -, HX⟩
  isplitl [HX]; · iexact HX
  isplitl [Hs]; · iexact Hs
  iexact Hp
theorem region_out (c : Dev nD) : ((pdats m 0 c).Φ (Fin.last _) : sProp 𝕄)
    ⊢ iprop(Pipeline.scopedRest spec0 c ∗ (∃ r, prngReg c r) ∗ StableHlo.held (c.tc : Thread nD τ) ∅ (B0 m c) ∗ Pipeline.ownSems0 osem c ∗ semVal (barCell c) 0) := by
  rw [show (pdats m 0 c).Φ (Fin.last _) = iprop(semVal (barCell c) 0 ∗ Pipeline.ownSems0 osem c ∗ scratch c ∗ ∃ r, prngReg c r) from rfl, scopedRest_eq,
    held_none]
  iintro ⟨Hb, Hk, Hs, Hp⟩
  isplitl [Hs]; · iexact Hs
  isplitl [Hp]; · iexact Hp
  isplitr; · iempintro
  isplitl [Hk]; · iexact Hk
  iexact Hb

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def region : ℝ𝕊 0 :=
  Pipeline.RegionSeg.ofTalk (pcfgs (F := F)) adm (pdats m) () defs₀ 𝒱₀ L lv 0 osem (by decide : Pipeline.OwnSemFacts spec0 osem)
    ∅ offArrays (Finset.empty_subset _) kitP rfl (fun c => (body_obl m c).loose)
    (fun _ => 0) O₀ (fun c => (owed_zero m c).trans (zero_add _).symm) (owed_end m) (fun _ => rfl) (share_full m)
    (A1 m) (B0 m) (fun c b hb => off_same m c b (by rwa [Finset.sdiff_empty] at hb))
    (dealt (own₀ m)) (fun c => semVal (barCell c) 0) (ready₀ (own₀ m)) (fun c => semVal (barCell c) 0) (ready_of_dealt (own₀ m)) (region_in m) (region_out m)
    (fun c => by iintro H; imodintro; iexact H)
    (fun _ => 0)
    ⟨fun c _ _ => by rw [L_tc]; exact Finset.mem_singleton_self _, fun _ w s => le_of_eq (stage_level w s), fun c t g i h => cutD m c t g i h⟩
    (fun _ => iprop(emp))
    (fun c w => arr_in m c w) (fun c w => arr_out m c w)

/-! ## @main in parts -/

/-- What rides along before the region, and after. -/
def before (c : Dev nD) : sProp 𝕄 := iprop(dealt (own₀ m) c ∗ (∃ r, prngReg c r) ∗ ∃ Wd, owes (c : Thread nD τ) (O₀ c) Wd)
def after (c : Dev nD) : sProp 𝕄 := iprop(semVal (barCell c) 0 ∗ (∃ r, prngReg c r) ∗ ∃ Wd, owes (c : Thread nD τ) (0 : CellTallies nD τ sig Unit) Wd)

theorem ops_in {ops : List (HloOp τ sig (Elt F))} (h : ops.Forall fun op => op.bufs ⊆ StableHlo.tcRefs τ sig) :
    ∀ op ∈ ops, op.bufs ⊆ Pipeline.ucRefs τ sig := fun op hop => Pipeline.sub_ucRefs op ((List.forall_iff_forall_mem.mp h) op hop)
theorem ops_fresh {ops : List (HloOp τ sig (Elt F))} (h : ops.Forall fun op => op.fresh = ∅) : ∀ op ∈ ops, op.fresh = ∅ :=
  List.forall_iff_forall_mem.mp h

def part0 : ℍ := Pipeline.HostSeg.ofOps _ _ _ _ _ (Pipeline.ucRefs τ sig) hostOps0 (ops_in hostOps0_sub) (ops_fresh hostOps0_fresh) (A0 m) (before m)
def part1 : ℍ := Pipeline.HostSeg.ofOps _ _ _ _ _ (Pipeline.ucRefs τ sig) hostOps1 (ops_in hostOps1_sub) (ops_fresh hostOps1_fresh) (B0 m) after

def segs : List (Pipeline.Seg (pcfgs (F := F)) adm (pdats m) () defs₀ 𝒱₀ L lv) :=
  [.host (part0 m), .region (region m), .host (part1 m)]

theorem main_eq (c : Dev nD) : main (F := F) c = Pipeline.Seg.run (segs m) := by
  rw [main_chain, Pipeline.Seg.run_eq_chain]; rfl

theorem region_enter (c : Dev nD) :
    iprop(StableHlo.held (c : Thread nD τ) (Pipeline.ucRefs τ sig) (A1 m c) ∗ before m c) ⊢ (region m).pre c := by
  show _ ⊢ iprop(StableHlo.held (c.tc : Thread nD τ) (Pipeline.arrRefs spec0) (A1 m c) ∗ (∃ r, prngReg c r)
    ∗ (StableHlo.held (c.tc : Thread nD τ) offArrays (A1 m c) ∗ emp) ∗ dealt (own₀ m) c ∗ ∃ Wd, owes (c : Thread nD τ) (0 + O₀ c) Wd)
  rw [held_split, zero_add]
  unfold before
  iintro ⟨⟨Ha, Hf⟩, Hd, Hp, HO⟩
  isplitl [Ha]; · iexact Ha
  isplitl [Hp]; · iexact Hp
  isplitl [Hf]
  · isplitl [Hf]; · iexact Hf
    iempintro
  isplitl [Hd]; · iexact Hd
  iexact HO

theorem region_leave (c : Dev nD) :
    (region m).post c ⊢ iprop(StableHlo.held (c : Thread nD τ) (Pipeline.ucRefs τ sig) (B0 m c) ∗ after c) := by
  show iprop(StableHlo.held (c.tc : Thread nD τ) (Pipeline.arrRefs spec0) (B0 m c) ∗ (∃ r, prngReg c r)
    ∗ (StableHlo.held (c.tc : Thread nD τ) offArrays (B0 m c) ∗ emp) ∗ semVal (barCell c) 0 ∗ ∃ Wd, owes (c : Thread nD τ) (0 : CellTallies nD τ sig Unit) Wd) ⊢ _
  rw [held_split]
  unfold after
  iintro ⟨Ha, Hp, ⟨Hf, -⟩, Hb, HO⟩
  isplitl [Ha Hf]
  · isplitl [Ha]; · iexact Ha
    iexact Hf
  isplitl [Hb]; · iexact Hb
  isplitl [Hp]; · iexact Hp
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells payments)

/-- The protocol's launch element rests with device 0 until everything is dealt. -/
def parked (c : Dev nD) : sProp 𝕄 := if c = 0 then BI.own (ER (launchOf barCells ownCells payments)) else iprop(emp)
theorem parked_eq : (bigSep Finset.univ fun c : Dev nD => parked c) = (BI.own (ER (launchOf barCells ownCells payments)) : sProp 𝕄) := by
  rw [BI.bigSep_univ_at _ (0 : Dev nD), BI.bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch is not the protocol's ghost state. -/
def plain (c : Dev nD) : sProp 𝕄 :=
  iprop(StableHlo.held (c : Thread nD τ) (Pipeline.ucRefs τ sig) (A0 m c) ∗ credits c ∗ owes (c : Thread nD τ) (O₀ c) ∅ ∗ ∃ r, prngReg c r)
abbrev T₀ (c : Dev nD) : sProp 𝕄 := iprop(StableHlo.held (c : Thread nD τ) (Pipeline.ucRefs τ sig) (A0 m c) ∗ before m c)
abbrev Tₙ (c : Dev nD) : sProp 𝕄 := iprop(StableHlo.held (c : Thread nD τ) (Pipeline.ucRefs τ sig) (B1 m c) ∗ semVal (barCell c) 0)

theorem start_of (κ : GSem nD τ sig → ℕ) (c : Dev nD) : iprop(records (own₀ m) κ ∗ (linear c ∗ plain m c)) ⊢ T₀ m c := by
  unfold plain T₀ before dealt
  iintro ⟨#HR, Hl, Hh, Hc, HO, Hp⟩
  isplitl [Hh]; · iexact Hh
  isplitl [Hl Hc]
  · isplitl [Hl]
    · iapply (ghost_intro (own₀ m) κ c)
      isplitr; · iexact HR
      iexact Hl
    iexact Hc
  isplitl [Hp]; · iexact Hp
  iexists ∅; iexact HO

theorem plain_of (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(plain m c ∗ (semVal (barCell c) 0 ∗ parked c)) : sProp 𝕄) := by
  rw [show unscopedBufs c (fun b => m ((c : Thread nD τ).loc b)) = StableHlo.held (c : Thread nD τ) (Pipeline.ucRefs τ sig) (A0 m c) from Pipeline.unscopedBufs_held c (A0 m c),
    unscopedSems_eq]
  unfold plain
  iintro ⟨Hh, Hus, HO, Hcr, Hp, HG⟩
  ihave Hc := (credits_of_launch (F := F) c) $$ Hcr
  isplitl [Hh Hc HO Hp]
  · isplitl [Hh]; · iexact Hh
    isplitl [Hc]; · iexact Hc
    isplitl [HO]; · iexact HO
    iexists (ρ c); iexact Hp
  isplitl [Hus]
  · iexact Hus
  · iexact HG

theorem bar_vals : (bigSep Finset.univ fun c : Dev nD => (semVal (barCell c) 0 : sProp 𝕄)) ⊢ bigSep barCells fun g => (semVal g 0 : sProp 𝕄) :=
  Entails.of_eq (BI.bigSep_map (s := Finset.univ) barEmb (Φ := fun g : GSem nD τ sig => (semVal g 0 : sProp 𝕄))).symm
theorem bar_pos : (bigSep barCells fun g => (atPos ER g 0 ∅ 0 : sProp 𝕄)) ⊢ bigSep Finset.univ fun c : Dev nD => (atPos ER (barCell c) 0 ∅ 0 : sProp 𝕄) :=
  Entails.of_eq (BI.bigSep_map (s := Finset.univ) barEmb (Φ := fun g : GSem nD τ sig => (atPos ER g 0 ∅ 0 : sProp 𝕄)))
theorem own_opens : (bigSep ownCells fun g => (openTok ER g : sProp 𝕄)) ⊢ bigSep Finset.univ fun c : Dev nD => bigSep Finset.univ fun k : Ch => opens k c := by
  refine Entails.of_eq ?_
  unfold ownCells
  rw [BI.bigSep_map, BI.bigSep_univ_prod]
  refine BI.bigSep_congr fun c _ => ?_
  unfold opens
  rw [BI.bigSep_univ_sum, BI.bigSep_sep']
  rfl

theorem regroup (A T O P : sProp 𝕄) : iprop((A ∗ T) ∗ O ∗ P) = iprop(A ∗ O ∗ T ∗ P) := by
  have h1 : iprop((A ∗ T) ∗ O ∗ P) ⊢ iprop(A ∗ O ∗ T ∗ P) := by
    iintro ⟨⟨Ha, Ht⟩, Ho, Hp⟩
    isplitl [Ha]; · iexact Ha
    isplitl [Ho]; · iexact Ho
    isplitl [Ht]; · iexact Ht
    iexact Hp
  have h2 : iprop(A ∗ O ∗ T ∗ P) ⊢ iprop((A ∗ T) ∗ O ∗ P) := by
    iintro ⟨Ha, Ho, Ht, Hp⟩
    isplitl [Ha Ht]
    · isplitl [Ha]; · iexact Ha
      iexact Ht
    isplitl [Ho]; · iexact Ho
    iexact Hp
  exact BI.equiv_iff.mp ⟨h1, h2⟩

/-- What every device holds of the protocol, put together from what the funding makes. -/
theorem linear_of :
    iprop((bigSep barCells fun g => (atPos ER g 0 ∅ 0 : sProp 𝕄)) ∗ (bigSep ownCells fun g => openTok ER g)
        ∗ bigSep payments fun x => dutyTok ER x.1 x.2.1 x.2.2)
      ⊢ (bigSep Finset.univ fun c : Dev nD => linear c : sProp 𝕄) := by
  have e : (bigSep Finset.univ fun c : Dev nD => (linear c : sProp 𝕄))
      = iprop((bigSep Finset.univ fun c : Dev nD => atPos ER (barCell c) 0 ∅ 0) ∗ (bigSep Finset.univ fun c : Dev nD => bigSep Finset.univ fun k : Ch => opens k c)
          ∗ bigSep Finset.univ fun c : Dev nD => iprop((dutyTok ER (barCell (prv c)) 0 true ∗ dutyTok ER (barCell (nxt c)) 0 false)
              ∗ bigSep Finset.univ fun k : Ch => pays k c)) := by
    rw [← BI.bigSep_sep', ← BI.bigSep_sep']
    refine BI.bigSep_congr fun c _ => ?_
    unfold linear barLin
    exact regroup _ _ _ _
  rw [e, ← toks_around, ← toks_eq]
  iintro ⟨Ha, Ho, Ht⟩
  isplitl [Ha]; · iapply bar_pos $$ Ha
  isplitl [Ho]; · iapply own_opens $$ Ho
  iexact Ht

theorem unpair (Φ Ψ : Dev nD → sProp 𝕄) : (bigSep Finset.univ fun c => iprop(Φ c ∗ Ψ c)) ⊢ iprop(bigSep Finset.univ Φ ∗ bigSep Finset.univ Ψ) :=
  Entails.of_eq (BI.bigSep_sep' _ Φ Ψ)
theorem pair (Φ Ψ : Dev nD → sProp 𝕄) : iprop(bigSep Finset.univ Φ ∗ bigSep Finset.univ Ψ) ⊢ (bigSep Finset.univ fun c => iprop(Φ c ∗ Ψ c)) :=
  Entails.of_eq (BI.bigSep_sep' _ Φ Ψ).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(plain m c ∗ (semVal (barCell c) 0 ∗ parked c)) : sProp 𝕄) from BI.bigSep_mono fun c _ => plain_of m ρ c) $$ H
  ihave H2 := unpair _ _ $$ H'; icases H2 with ⟨HB, H3⟩
  ihave H4 := unpair _ _ $$ H3; icases H4 with ⟨Hv, HG⟩
  ihave Hu := (Entails.of_eq (parked_eq (F := F))) $$ HG
  imod (Rounds.fund_launch ER (Rd (own₀ m)) cells_disjoint (fun g _ h => h) payments) $$ [Hv Hu] with ⟨%κ, -, #Hinv, #Hr, Hat, Hopen, Htok⟩
  · isplitl [Hv]
    · iapply bar_vals $$ Hv
    · iexact Hu
  imodintro
  iapply (bigSep_with_persistent (R := records (own₀ m) κ) (Φ := fun c => iprop(linear c ∗ plain m c)) fun c _ => start_of m κ c)
  isplitr
  · unfold records
    isplitr; · iexact Hinv
    iexact Hr
  iapply (pair _ _)
  isplitr [HB]
  · iapply linear_of
    isplitl [Hat]; · iexact Hat
    isplitl [Hopen]; · iexact Hopen
    iexact Htok
  · iexact HB

theorem unscoped_eq : ∀ sm : SemLoc sig, sm.isScoped .tc = false → sm = .reg barS := by decide

set_option backward.isDefEq.respectTransparency.types false in
/-- The run: every fair execution ends, each device's buffers at `B1 m c` and every counter at zero. -/
theorem run_all : θ_run defs (onTc (τ := τ) (main (F := F))) ⟨m, fun _ => 0, ρ⟩
    (fun r => (∀ (c : Dev nD) (b : DevRef τ sig), b ∈ Pipeline.ucRefs τ sig → r.2.mem ((c : Dev nD), b) = B1 m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := fun c => parked c) (u₀ := u₀)
    (hu₀ := by
      unfold u₀
      rw [parked_eq]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => region_enter m c, fun c => region_leave m c, fun c => ?_⟩
      show iprop(StableHlo.held (c : Thread nD τ) (Pipeline.ucRefs τ sig) (B1 m c) ∗ after c)
        ⊢ iprop(Tₙ m c ∗ ∃ W, owes (c : Thread nD τ) (0 : CellTallies nD τ sig Unit) W)
      unfold after
      iintro ⟨Hh, Hb0, -, HO⟩
      isplitr [HO]
      · isplitl [Hh]
        · iexact Hh
        · iexact Hb0
      · iexact HO)
    (hinit := init m ρ)
    (QY := fun c s => (∀ b ∈ Pipeline.ucRefs τ sig, s.mem ((c : Dev nD), b) = B1 m c b) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Dev nD), b)) (fun b => B1 m c b) s') $$ [Hh HSI]
      · isplitl [Hh]
        · iexact Hh
        · iexact HSI
      icases Hr with ⟨%h, HSI⟩
      imodintro
      isplitr
      · ipureintro
        exact ⟨h, by simpa using hb⟩
      iexact HSI)
    (hQ := fun s h hs => ⟨fun c b hb => (h c).1 b hb,
      sem_eq_zero hs fun c sm hsm => by
        obtain rfl := unscoped_eq sm hsm
        exact (h c).2⟩)

end Cert.KernelIdeal.Hand

end
-- ==== Proof.Ends.lean ====
/-
  What the run leaves: the result array, and the arguments as they were.
-/
module

public import proofs.«01_k».proof.Proof.Launch

@[expose] public section

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Idealize.ShloMosaic.Pipeline (Dat)

variable {F : FTy → Type} [FloatOps F]

variable (m : (ℓ : Loc nD τ sig) → Buf (Elt F) ℓ) (ρ : Dev nD → PrngReg)

theorem emb5 (y : S512x768.Idx) : ((cfg0.win 5).blk t0_0).view.emb y = y := by
  funext a
  refine Fin.ext ?_
  refine (ValueKit.view_emb_slice_whole_unit_val main_v37 _ _ _ y a).trans ?_
  show 0 * _ + (y a).val = (y a).val
  rw [Nat.zero_mul, Nat.zero_add]

theorem res_arr (c : Dev nD) : (dat m c).arrAt 5 cfg0.N = res m c := by
  refine (dat m c).arrAt_eq_of_cover 5 (res m c) (fun t _ => ?_) (fun i => ⟨t0_0, flush0_5 t0_0, ?_⟩)
  · obtain rfl := fin_N0 t
    exact (after5 m c).trans (blk5 (res m c)).symm
  · exact (emb5 i) ▸ ((cfg0.win 5).blk t0_0).view.emb_mem_set i

/-- The result: the computed array, its rows split into the two batches. -/
def final (c : Dev nD) : FVec F S2x256x768 .f32 := shapeCast S2x256x768 (res m c) shapeCasts_S512x768_S2x256x768

theorem final_eq (c : Dev nD) : B1 m c (Proc.devRef .tc main_v38) = final m c := by
  unfold B1 final
  rw [StableHlo.after_cons, StableHlo.after_nil, StableHlo.reshape_result]
  funext i
  show shapeCast S2x256x768 (B0 m c (Proc.devRef .tc main_v37)) shapeCasts_S512x768_S2x256x768 i = _
  rw [show B0 m c (Proc.devRef .tc main_v37) = res m c from (arr_out m c 5).symm.trans (res_arr m c)]

theorem kept (c : Dev nD) (b : Ref sig .tc) (h38 : b ≠ main_v38) (ha : ∀ w, Pipeline.arrRef spec0 w ≠ b) :
    B1 m c (Proc.devRef .tc b) = V m c b := by
  unfold B1 B0
  rw [StableHlo.after_cons, StableHlo.after_nil, StableHlo.reshape_result_ne _ _ _ _ _ _ _ h38, Pipeline.withArrays_of_ne spec0 c (A1 m c) _ b ha, ← V0_eq]

/-- THE RUN: every fair execution from zero counters ends, each device's result its own final array, its arguments
    unchanged, and every counter at zero. -/
theorem run_main : θ_run defs (onTc (τ := τ) (main (F := F))) ⟨m, fun _ => 0, ρ⟩
    (fun r => (∀ c : Dev nD, r.2.mem ((c : Thread nD τ).loc main_v38) = final m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) := by
  refine (θ_run defs _ _).mono (fun r h => ⟨fun c => ?_, h.2⟩) (run_all m ρ)
  have g (b : Ref sig .tc) (hb : b.isScoped = false) : r.2.mem ((c : Thread nD τ).loc b) = B1 m c (Proc.devRef .tc b) :=
    h.1 c _ (StableHlo.devRef_mem_ucRefs b hb)
  refine ⟨(g main_v38 (by decide)).trans (final_eq m c), ?_, ?_, ?_, ?_, ?_⟩
  · exact (g main_arg0 (by decide)).trans ((kept m c main_arg0 (by decide) (by decide)).trans (V_main_arg0 m c))
  · exact (g main_arg1 (by decide)).trans ((kept m c main_arg1 (by decide) (by decide)).trans (V_main_arg1 m c))
  · exact (g main_arg2 (by decide)).trans ((kept m c main_arg2 (by decide) (by decide)).trans (V_main_arg2 m c))
  · exact (g main_arg3 (by decide)).trans ((kept m c main_arg3 (by decide) (by decide)).trans (V_main_arg3 m c))
  · exact (g main_arg4 (by decide)).trans ((kept m c main_arg4 (by decide) (by decide)).trans (V_main_arg4 m c))

end Cert.KernelIdeal.Hand

end
-- ==== Proof.Same.lean ====
/-
  The kernel's program printed for machine floats and the one printed for ideal values are the same text, so the run
  proved for one is a run of the other. Their bodies, tables and host programs are compared here, once.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

attribute [local instance] Cert.Kernel.Gen.facts Cert.KernelIdeal.Gen.facts

/-- The kernel body. -/
theorem body_same : (Cert.Kernel.cc0_body (F := Bits)) = (Cert.KernelIdeal.cc0_body (F := Bits)) := rfl

/-- The table of bodies. -/
theorem defs0_same : (Cert.Kernel.defs₀ (F := Bits)) = (Cert.KernelIdeal.defs₀ (F := Bits)) := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _

/-- The pipeline's table. -/
theorem defs_same : (Cert.Kernel.defs (F := Bits)) = (Cert.KernelIdeal.defs (F := Bits)) :=
  congrArg (Pipeline.defs (Cert.KernelIdeal.pcfgs (F := Bits))) defs0_same

set_option maxRecDepth 100000 in
/-- The literal pair exchange. -/
theorem lit_same : Cert.Kernel.lit0 = Cert.KernelIdeal.lit0 := rfl

/-- The whole host program. -/
theorem main_same : (Cert.Kernel.main (F := Bits)) = (Cert.KernelIdeal.main (F := Bits)) := by
  unfold Cert.Kernel.main Cert.KernelIdeal.main
  rw [lit_same]
  rfl

end Cert.Proof

end
-- ==== Proof.Frames.lean ====
/-
  The three frames: every program ends, its arguments as they were and every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Ends
public import proofs.«01_k».proof.Proof.Same

@[expose] public section

noncomputable section

namespace Cert.Proof

open Idealize.ShloMosaic Idealize.SL.Sem

attribute [local instance] Cert.Kernel.Gen.facts Cert.KernelIdeal.Gen.facts Cert.ReferenceIdeal.Gen.facts

/-- The kernel's run on machine floats, whatever table and program stand for its own. -/
theorem run_kernel_of (D : Defs Cert.KernelIdeal.nD Cert.KernelIdeal.τ Cert.KernelIdeal.sig (Elt Bits) (Pipeline.Sig Cert.KernelIdeal.Λ₀ (Fin 1) fun p => (Cert.KernelIdeal.pcfgs (F := Bits) p).Adm))
    (M : Dev Cert.KernelIdeal.nD → Prog (TpuEff Cert.KernelIdeal.nD Cert.KernelIdeal.τ Cert.KernelIdeal.sig (Elt Bits) (Pipeline.Sig Cert.KernelIdeal.Λ₀ (Fin 1) fun p => (Cert.KernelIdeal.pcfgs (F := Bits) p).Adm) .tc) PUnit)
    (hD : D = Cert.KernelIdeal.defs (F := Bits)) (hM : M = Cert.KernelIdeal.main (F := Bits)) (m ρ) :
    θ_run D (onTc (τ := Cert.KernelIdeal.τ) M) ⟨m, fun _ => 0, ρ⟩ (fun r =>
      (∀ c : Dev Cert.KernelIdeal.nD, r.2.mem ((c.tc : Thread Cert.KernelIdeal.nD Cert.KernelIdeal.τ).loc Cert.KernelIdeal.main_arg0) = m (c.tc.loc Cert.KernelIdeal.main_arg0)
        ∧ r.2.mem ((c.tc : Thread Cert.KernelIdeal.nD Cert.KernelIdeal.τ).loc Cert.KernelIdeal.main_arg1) = m (c.tc.loc Cert.KernelIdeal.main_arg1)
        ∧ r.2.mem ((c.tc : Thread Cert.KernelIdeal.nD Cert.KernelIdeal.τ).loc Cert.KernelIdeal.main_arg2) = m (c.tc.loc Cert.KernelIdeal.main_arg2)
        ∧ r.2.mem ((c.tc : Thread Cert.KernelIdeal.nD Cert.KernelIdeal.τ).loc Cert.KernelIdeal.main_arg3) = m (c.tc.loc Cert.KernelIdeal.main_arg3)
        ∧ r.2.mem ((c.tc : Thread Cert.KernelIdeal.nD Cert.KernelIdeal.τ).loc Cert.KernelIdeal.main_arg4) = m (c.tc.loc Cert.KernelIdeal.main_arg4)) ∧ r.2.sem = fun _ => 0) := by
  subst hD hM
  exact (θ_run Cert.KernelIdeal.defs _ _).mono (fun _ h => ⟨fun c => (h.1 c).2, h.2⟩)
    (Cert.KernelIdeal.Hand.run_main (F := Bits) m ρ)

/-- The kernel on machine floats. -/
theorem frame_kernel : Cert.quiescent_Kernel := fun m ρ _ =>
  run_kernel_of (Cert.Kernel.defs (F := Bits)) (Cert.Kernel.main (F := Bits)) defs_same main_same m ρ

/-- The kernel on ideal values. -/
theorem frame_ideal : Cert.quiescent_KernelIdeal := fun m ρ _ =>
  (θ_run Cert.KernelIdeal.defs _ _).mono (fun _ h => ⟨fun c => (h.1 c).2, h.2⟩)
    (Cert.KernelIdeal.Hand.run_main (F := Ideal) m ρ)

/-- The reference on ideal values. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Words.lean ====
/-
  The literal matrix of the program: every one of its words, compared with a formula. The program lists the words as a
  tree, by the digits of the index in base 128; the formula is put into the same tree, and then read out of it.
-/
module

public import proofs.«01_k».proof.KernelIdeal
import Idealize.ShloMosaic.Lib.Pointwise.Reshape

@[expose] public section

set_option maxRecDepth 100000

namespace Cert.KernelIdeal.Hand

open Idealize.ShloMosaic
open Cert.KernelIdeal

/-- The word at an index of the matrix, 256 to a row. Under an even column the row after it is −1, under an odd column
    the row before it is 1; everything else is a zero, a negative one where the 64 × 64 block holds −1 and the head
    differs. -/
def word (i : Nat) : BitVec 16 :=
  bif Nat.beq (i % 2) 0 then
    (bif Nat.beq (i / 256) (i % 256 + 1) then 0xBF80#16
      else bif Nat.beq (i / 256 % 64) (i % 64 + 1) then 0x8000#16 else 0x0000#16)
  else (bif Nat.beq (i % 256) (i / 256 + 1) then 0x3F80#16 else 0x0000#16)

/-- A choice by one digit. -/
abbrev pick (f : Nat → BitVec 16) (d : Nat) : BitVec 16 := match d with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#16

theorem pick_eq (f : Nat → BitVec 16) : ∀ d, d < 128 → pick f d = f d
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | n + 128, h => absurd h (by omega)

/-- A choice by the first digit. -/
abbrev pickTop (f : Nat → BitVec 16) (d : Nat) : BitVec 16 := match d with
  | 0 => f 0
  | 1 => f 1
  | 2 => f 2
  | 3 => f 3
  | _ => 0#16

theorem pickTop_eq (f : Nat → BitVec 16) : ∀ d, d < 4 → pickTop f d = f d
  | 0, _ => rfl
  | 1, _ => rfl
  | 2, _ => rfl
  | 3, _ => rfl
  | n + 4, h => absurd h (by omega)

/-- The formula in the shape of the program's tree. -/
abbrev tree (i : Nat) : BitVec 16 :=
  pickTop (fun a => pick (fun b => pick (fun d => word (16384 * a + (128 * b + d))) (i % 128)) (i / 128 % 128)) (i / 16384)

set_option maxHeartbeats 0 in
/-- The program's tree holds the formula's words. -/
theorem lit_tree (i : Nat) : lit0t i = tree i := rfl

/-- Every word of the literal. -/
theorem lit_word (i : Nat) (h : i < 65536) : lit0t i = word i := by
  rw [lit_tree]
  unfold tree
  rw [pickTop_eq _ _ (by omega), pick_eq _ _ (by omega), pick_eq _ _ (by omega)]
  congr 1
  omega

/-- The word at a place of the matrix. -/
theorem lit_at (f : S256x256.Idx) (h0 : (f 0).val < 256) (h1 : (f 1).val < 256) :
    lit0 (S256x256.rowMajor f) = word (256 * (f 0).val + (f 1).val) := by
  refine (lit_word _ (S256x256.rowMajor f).isLt).trans (congrArg word ?_)
  refine (rowMajor_val2 f 256 rfl).trans ?_
  omega

end Cert.KernelIdeal.Hand

end
-- ==== Proof.Host.lean ====
/-
  What the host stretch before the region leaves in the five operands of the region.
-/
module

public import proofs.«01_k».proof.Proof.Ends
public import proofs.«01_k».proof.Proof.Words
public import proofs.«01_k».proof.Proof.Gen.ReferenceIdeal
public import proofs.«01_k».proof.Proof.Gen.ReferenceIdeal.Read
public import Idealize.ShloMosaic.Lib.StableHlo.RunRead
public import Idealize.ShloMosaic.Lib.Claim

@[expose] public section

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]

variable (m : (ℓ : Loc nD τ sig) → Buf (Elt F) ℓ)

/-- The activations: the rows of both batches, one after the other. -/
theorem entry_x (c : Dev nD) : V m c main_v36
    = truncf .bf16 (shapeCast S512x768 (m ((c : Thread nD τ).loc main_arg0) : FVec F S2x256x768 .f32) shapeCasts_S2x256x768_S512x768) bitsLt_bf16_f32 := by
  unfold_abbrev_sides
  after_reads_simp
  rfl

/-- The stacked weights. -/
theorem entry_w (c : Dev nD) : V m c main_v34
    = truncf .bf16 (concatenate S3072x256 0 [⟨S768x256, (m ((c : Thread nD τ).loc main_arg1) : FVec F S768x256 .f32)⟩,
        ⟨S768x256, (m ((c : Thread nD τ).loc main_arg2) : FVec F S768x256 .f32)⟩, ⟨S768x256, (m ((c : Thread nD τ).loc main_arg3) : FVec F S768x256 .f32)⟩,
        ⟨S768x256, (transpose S768x256 [1, 0] (m ((c : Thread nD τ).loc main_arg4) : FVec F S256x768 .f32) transposes_S256x768_S768x256_1_0 : FVec F S768x256 .f32)⟩]
        concatenates_S768x256_S768x256_S768x256_S768x256_S3072x256_d0) bitsLt_bf16_f32 := by
  unfold_abbrev_sides
  after_reads_simp
  dsimp only [Matrix.cons_val]
  have e0 : StableHlo.upto (List.flatten [hostOps0]) (fun b => m (c, b)) 38 (Proc.tc.devRef main_arg1) = m (c, Proc.tc.devRef main_arg1) := by
    after_reads_simp
  have e1 : StableHlo.upto (List.flatten [hostOps0]) (fun b => m (c, b)) 38 (Proc.tc.devRef main_arg2) = m (c, Proc.tc.devRef main_arg2) := by
    after_reads_simp
  have e2 : StableHlo.upto (List.flatten [hostOps0]) (fun b => m (c, b)) 38 (Proc.tc.devRef main_arg3) = m (c, Proc.tc.devRef main_arg3) := by
    after_reads_simp
  have e3 : StableHlo.upto (List.flatten [hostOps0]) (fun b => m (c, b)) 38 (Proc.tc.devRef main_v32) = (transpose S768x256 [1, 0] (m (c, Proc.tc.devRef main_arg4) : FVec F S256x768 .f32) transposes_S256x768_S768x256_1_0 : FVec F S768x256 .f32) := by
    after_reads_simp
  rw [e0, e1, e2, e3]

/-- A table of one position and head dimension, spread over the batches and the heads. -/
def spread (t : FVec F S256x64 .f32) : FVec F S512x256 .f32 :=
  shapeCast S512x256 (broadcastInDim S2x256x4x64 ![0, 1, 2, 3] bcast_S1x256x1x64_S2x256x4x64_0_1_2_3
    (shapeCast S1x256x1x64 t shapeCasts_S256x64_S1x256x1x64)) shapeCasts_S2x256x4x64_S512x256

/-- The cosines: the reference's table, spread. -/
theorem entry_cos (c : Dev nD) : V m c main_v28 = spread (Cert.ReferenceIdeal.Read.val_main_v21 (F := F)) := by
  unfold_abbrev_sides
  after_reads_simp
  rfl

/-- The sines. -/
theorem entry_sin (c : Dev nD) : V m c main_v31 = spread (Cert.ReferenceIdeal.Read.val_main_v24 (F := F)) := by
  unfold_abbrev_sides
  after_reads_simp
  rfl

/-- The literal pair exchange as the program lists it. -/
def exch : FVec F S256x256 .bf16 := fun i => FloatOps.ofBits .bf16 (lit0 (S256x256.rowMajor i))

/-- The pair exchange the region is given. -/
theorem entry_exch (c : Dev nD) : V m c main_cst = exch (F := F) := by
  unfold_abbrev_sides
  after_reads_simp
  rfl

theorem ofBits_neg_zero : Ideal.ofBits .bf16 0x8000#16 = 0 := by simp [Ideal.ofBits, Ideal.ieee]

theorem word_value (r c : Fin 256) : Ideal.ofBits .bf16 (word (256 * r.val + c.val))
    = if c.val % 2 = 0 then (if r.val = c.val + 1 then (-1 : EReal) else 0) else (if c.val = r.val + 1 then 1 else 0) := by
  have hm : Ideal.ofBits .bf16 0xBF80#16 = -1 := IdealRules.sign_bit.ideal_negOnePat .bf16
  have h1 : Ideal.ofBits .bf16 0x3F80#16 = 1 := IdealRules.sign_bit.ideal_onePat .bf16
  have h0 : Ideal.ofBits .bf16 0x0000#16 = 0 := by simp [Ideal.ofBits, Ideal.ieee]
  have hc := c.isLt
  have e2 : (256 * r.val + c.val) % 2 = c.val % 2 := by omega
  have er : (256 * r.val + c.val) / 256 = r.val := by omega
  have ec : (256 * r.val + c.val) % 256 = c.val := by omega
  unfold word
  simp only [e2, er, ec, cond_eq_ite, Nat.beq_eq]
  split_ifs
  all_goals first | exact hm | exact h1 | exact h0 | exact ofBits_neg_zero

/-- The pair exchange, entry by entry. -/
theorem exch_value (r c : Fin 256) : exch (F := Ideal) (ix2 r c)
    = if c.val % 2 = 0 then (if r.val = c.val + 1 then (-1 : EReal) else 0) else (if c.val = r.val + 1 then 1 else 0) := by
  show Ideal.ofBits .bf16 (lit0 (S256x256.rowMajor (ix2 r c))) = _
  rw [lit_at (ix2 r c) r.isLt c.isLt]
  exact word_value r c

end Cert.KernelIdeal.Hand

end
-- ==== Proof.Dots.lean ====
/-
  The five matrix products of the kernel, read entry by entry over the extended reals.
-/
module

public import proofs.«01_k».proof.Proof.Body
public import Idealize.ShloMosaic.Lib.ValueIdx
public import Idealize.ShloMosaic.Lib.IdealHost

@[expose] public section

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

theorem lhs_proj_0 (i : S512x256.Idx) (q : dot_S512x768_S768x256_S512x256_1_0_0_1_n_n.contr.Idx) : (dot_S512x768_S768x256_S512x256_1_0_0_1_n_n.lhsIdx i q 0).val = (i 0).val := by
  unfold DotDims.lhsIdx
  rw [dif_neg (show ¬(0 : Fin S512x768.rank) ∈ dot_S512x768_S768x256_S512x256_1_0_0_1_n_n.lhsBatch by decide), dif_pos (show (0 : Fin S512x768.rank) ∈ dot_S512x768_S768x256_S512x256_1_0_0_1_n_n.lhsNonContracting by decide)]
  rfl
theorem rhs_proj_1 (i : S512x256.Idx) (q : dot_S512x768_S768x256_S512x256_1_0_0_1_n_n.contr.Idx) : (dot_S512x768_S768x256_S512x256_1_0_0_1_n_n.rhsIdx i q 1).val = (i 1).val := by
  unfold DotDims.rhsIdx
  rw [dif_neg (show ¬(1 : Fin S768x256.rank) ∈ dot_S512x768_S768x256_S512x256_1_0_0_1_n_n.rhsBatch by decide), dif_pos (show (1 : Fin S768x256.rank) ∈ dot_S512x768_S768x256_S512x256_1_0_0_1_n_n.rhsNonContracting by decide)]
  rfl
/-- A projection. -/
theorem mm_proj (x : FVec Ideal S512x768 .bf16) (w : FVec Ideal S768x256 .bf16) (i0 : Fin 512) (i1 : Fin 256) :
    matmul dot_S512x768_S768x256_S512x256_1_0_0_1_n_n none x w (constant S512x256 .f32 0x00000000#32) (ix2 i0 i1) = ∑ k : Fin 768, x (ix2 i0 k) * w (ix2 k i1) := by
  simp only [matmul]
  rw [Ideal.matmul_constant_zero_apply, ← Equiv.sum_comp (ValueIdx.contrEquiv1 dot_S512x768_S768x256_S512x256_1_0_0_1_n_n 768 rfl rfl).symm]
  refine Finset.sum_congr rfl fun k _ => ?_
  have hk := ValueIdx.contrEquiv1_symm_val dot_S512x768_S768x256_S512x256_1_0_0_1_n_n 768 rfl rfl k
  have el : dot_S512x768_S768x256_S512x256_1_0_0_1_n_n.lhsIdx (ix2 i0 i1) ((ValueIdx.contrEquiv1 dot_S512x768_S768x256_S512x256_1_0_0_1_n_n 768 rfl rfl).symm k) = ix2 i0 k := funext fun a => Fin.ext (by
    match a with
    | ⟨0, _⟩ => exact lhs_proj_0 _ _
    | ⟨1, _⟩ => exact (dot_S512x768_S768x256_S512x256_1_0_0_1_n_n.lhsIdx_val_of_single rfl _ _).trans hk)
  have er : dot_S512x768_S768x256_S512x256_1_0_0_1_n_n.rhsIdx (ix2 i0 i1) ((ValueIdx.contrEquiv1 dot_S512x768_S768x256_S512x256_1_0_0_1_n_n 768 rfl rfl).symm k) = ix2 k i1 := funext fun a => Fin.ext (by
    match a with
    | ⟨0, _⟩ => exact (dot_S512x768_S768x256_S512x256_1_0_0_1_n_n.rhsIdx_val_of_single rfl _ _).trans hk
    | ⟨1, _⟩ => exact rhs_proj_1 _ _)
  rw [el, er]

theorem lhs_pair_0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem rhs_pair_1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- The pair exchange. -/
theorem mm_pair (x : FVec Ideal S512x256 .bf16) (w : FVec Ideal S256x256 .bf16) (i0 : Fin 512) (i1 : Fin 256) :
    matmul dot_S512x256_S256x256_S512x256_1_0_0_1_n_n none x w (constant S512x256 .f32 0x00000000#32) (ix2 i0 i1) = ∑ k : Fin 256, x (ix2 i0 k) * w (ix2 k i1) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 i0 i1) ((ValueIdx.contrEquiv1 dot_S512x256_S256x256_S512x256_1_0_0_1_n_n 256 rfl rfl).symm k) = ix2 i0 k := funext fun a => Fin.ext (by
    match a with
    | ⟨0, _⟩ => exact lhs_pair_0 _ _
    | ⟨1, _⟩ => exact (dot_S512x256_S256x256_S512x256_1_0_0_1_n_n.lhsIdx_val_of_single rfl _ _).trans hk)
  have er : dot_S512x256_S256x256_S512x256_1_0_0_1_n_n.rhsIdx (ix2 i0 i1) ((ValueIdx.contrEquiv1 dot_S512x256_S256x256_S512x256_1_0_0_1_n_n 256 rfl rfl).symm k) = ix2 k i1 := funext fun a => Fin.ext (by
    match a with
    | ⟨0, _⟩ => exact (dot_S512x256_S256x256_S512x256_1_0_0_1_n_n.rhsIdx_val_of_single rfl _ _).trans hk
    | ⟨1, _⟩ => exact rhs_pair_1 _ _)
  rw [el, er]

theorem lhs_score_0 (i : S256x256.Idx) (q : dot_S256x64_S256x64_S256x256_1_1_0_0_n_n.contr.Idx) : (dot_S256x64_S256x64_S256x256_1_1_0_0_n_n.lhsIdx i q 0).val = (i 0).val := by
  unfold DotDims.lhsIdx
  rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
  rfl
theorem rhs_score_0 (i : S256x256.Idx) (q : dot_S256x64_S256x64_S256x256_1_1_0_0_n_n.contr.Idx) : (dot_S256x64_S256x64_S256x256_1_1_0_0_n_n.rhsIdx i q 0).val = (i 1).val := by
  unfold DotDims.rhsIdx
  rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
  rfl
/-- The scores. -/
theorem mm_score (x : FVec Ideal S256x64 .bf16) (w : FVec Ideal S256x64 .bf16) (i0 : Fin 256) (i1 : Fin 256) :
    matmul dot_S256x64_S256x64_S256x256_1_1_0_0_n_n none x w (constant S256x256 .f32 0x00000000#32) (ix2 i0 i1) = ∑ k : Fin 64, x (ix2 i0 k) * w (ix2 i1 k) := by
  simp only [matmul]
  rw [Ideal.matmul_constant_zero_apply, ← Equiv.sum_comp (ValueIdx.contrEquiv1 dot_S256x64_S256x64_S256x256_1_1_0_0_n_n 64 rfl rfl).symm]
  refine Finset.sum_congr rfl fun k _ => ?_
  have hk := ValueIdx.contrEquiv1_symm_val dot_S256x64_S256x64_S256x256_1_1_0_0_n_n 64 rfl rfl k
  have el : dot_S256x64_S256x64_S256x256_1_1_0_0_n_n.lhsIdx (ix2 i0 i1) ((ValueIdx.contrEquiv1 dot_S256x64_S256x64_S256x256_1_1_0_0_n_n 64 rfl rfl).symm k) = ix2 i0 k := funext fun a => Fin.ext (by
    match a with
    | ⟨0, _⟩ => exact lhs_score_0 _ _
    | ⟨1, _⟩ => exact (dot_S256x64_S256x64_S256x256_1_1_0_0_n_n.lhsIdx_val_of_single rfl _ _).trans hk)
  have er : dot_S256x64_S256x64_S256x256_1_1_0_0_n_n.rhsIdx (ix2 i0 i1) ((ValueIdx.contrEquiv1 dot_S256x64_S256x64_S256x256_1_1_0_0_n_n 64 rfl rfl).symm k) = ix2 i1 k := funext fun a => Fin.ext (by
    match a with
    | ⟨1, _⟩ => exact (dot_S256x64_S256x64_S256x256_1_1_0_0_n_n.rhsIdx_val_of_single rfl _ _).trans hk
    | ⟨0, _⟩ => exact rhs_score_0 _ _)
  rw [el, er]

theorem lhs_mix_0 (i : S256x64.Idx) (q : dot_S256x256_S256x64_S256x64_1_0_0_1_n_n.contr.Idx) : (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem rhs_mix_1 (i : S256x64.Idx) (q : dot_S256x256_S256x64_S256x64_1_0_0_1_n_n.contr.Idx) : (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl
/-- The weighted sum. -/
theorem mm_mix (x : FVec Ideal S256x256 .bf16) (w : FVec Ideal S256x64 .bf16) (i0 : Fin 256) (i1 : Fin 64) :
    matmul dot_S256x256_S256x64_S256x64_1_0_0_1_n_n none x w (constant S256x64 .f32 0x00000000#32) (ix2 i0 i1) = ∑ k : Fin 256, x (ix2 i0 k) * w (ix2 k i1) := by
  simp only [matmul]
  rw [Ideal.matmul_constant_zero_apply, ← Equiv.sum_comp (ValueIdx.contrEquiv1 dot_S256x256_S256x64_S256x64_1_0_0_1_n_n 256 rfl rfl).symm]
  refine Finset.sum_congr rfl fun k _ => ?_
  have hk := ValueIdx.contrEquiv1_symm_val dot_S256x256_S256x64_S256x64_1_0_0_1_n_n 256 rfl rfl k
  have el : dot_S256x256_S256x64_S256x64_1_0_0_1_n_n.lhsIdx (ix2 i0 i1) ((ValueIdx.contrEquiv1 dot_S256x256_S256x64_S256x64_1_0_0_1_n_n 256 rfl rfl).symm k) = ix2 i0 k := funext fun a => Fin.ext (by
    match a with
    | ⟨0, _⟩ => exact lhs_mix_0 _ _
    | ⟨1, _⟩ => exact (dot_S256x256_S256x64_S256x64_1_0_0_1_n_n.lhsIdx_val_of_single rfl _ _).trans hk)
  have er : dot_S256x256_S256x64_S256x64_1_0_0_1_n_n.rhsIdx (ix2 i0 i1) ((ValueIdx.contrEquiv1 dot_S256x256_S256x64_S256x64_1_0_0_1_n_n 256 rfl rfl).symm k) = ix2 k i1 := funext fun a => Fin.ext (by
    match a with
    | ⟨0, _⟩ => exact (dot_S256x256_S256x64_S256x64_1_0_0_1_n_n.rhsIdx_val_of_single rfl _ _).trans hk
    | ⟨1, _⟩ => exact rhs_mix_1 _ _)
  rw [el, er]

theorem lhs_outp_0 (i : S512x768.Idx) (q : dot_S512x256_S768x256_S512x768_1_1_0_0_n_n.contr.Idx) : (dot_S512x256_S768x256_S512x768_1_1_0_0_n_n.lhsIdx i q 0).val = (i 0).val := by
  unfold DotDims.lhsIdx
  rw [dif_neg (show ¬(0 : Fin S512x256.rank) ∈ dot_S512x256_S768x256_S512x768_1_1_0_0_n_n.lhsBatch by decide), dif_pos (show (0 : Fin S512x256.rank) ∈ dot_S512x256_S768x256_S512x768_1_1_0_0_n_n.lhsNonContracting by decide)]
  rfl
theorem rhs_outp_0 (i : S512x768.Idx) (q : dot_S512x256_S768x256_S512x768_1_1_0_0_n_n.contr.Idx) : (dot_S512x256_S768x256_S512x768_1_1_0_0_n_n.rhsIdx i q 0).val = (i 1).val := by
  unfold DotDims.rhsIdx
  rw [dif_neg (show ¬(0 : Fin S768x256.rank) ∈ dot_S512x256_S768x256_S512x768_1_1_0_0_n_n.rhsBatch by decide), dif_pos (show (0 : Fin S768x256.rank) ∈ dot_S512x256_S768x256_S512x768_1_1_0_0_n_n.rhsNonContracting by decide)]
  rfl
/-- The output product. -/
theorem mm_outp (x : FVec Ideal S512x256 .bf16) (w : FVec Ideal S768x256 .bf16) (i0 : Fin 512) (i1 : Fin 768) :
    matmul dot_S512x256_S768x256_S512x768_1_1_0_0_n_n none x w (constant S512x768 .f32 0x00000000#32) (ix2 i0 i1) = ∑ k : Fin 256, x (ix2 i0 k) * w (ix2 i1 k) := by
  simp only [matmul]
  rw [Ideal.matmul_constant_zero_apply, ← Equiv.sum_comp (ValueIdx.contrEquiv1 dot_S512x256_S768x256_S512x768_1_1_0_0_n_n 256 rfl rfl).symm]
  refine Finset.sum_congr rfl fun k _ => ?_
  have hk := ValueIdx.contrEquiv1_symm_val dot_S512x256_S768x256_S512x768_1_1_0_0_n_n 256 rfl rfl k
  have el : dot_S512x256_S768x256_S512x768_1_1_0_0_n_n.lhsIdx (ix2 i0 i1) ((ValueIdx.contrEquiv1 dot_S512x256_S768x256_S512x768_1_1_0_0_n_n 256 rfl rfl).symm k) = ix2 i0 k := funext fun a => Fin.ext (by
    match a with
    | ⟨0, _⟩ => exact lhs_outp_0 _ _
    | ⟨1, _⟩ => exact (dot_S512x256_S768x256_S512x768_1_1_0_0_n_n.lhsIdx_val_of_single rfl _ _).trans hk)
  have er : dot_S512x256_S768x256_S512x768_1_1_0_0_n_n.rhsIdx (ix2 i0 i1) ((ValueIdx.contrEquiv1 dot_S512x256_S768x256_S512x768_1_1_0_0_n_n 256 rfl rfl).symm k) = ix2 i1 k := funext fun a => Fin.ext (by
    match a with
    | ⟨1, _⟩ => exact (dot_S512x256_S768x256_S512x768_1_1_0_0_n_n.rhsIdx_val_of_single rfl _ _).trans hk
    | ⟨0, _⟩ => exact rhs_outp_0 _ _)
  rw [el, er]

end Cert.KernelIdeal.Hand

end
-- ==== Proof.Spec.lean ====
/-
  The mathematics both programs compute, over the extended reals: the rotary rotation of a head's row, and one head of
  softmax attention.
-/
module

public import Idealize.ShloMosaic.Lib.ValueIdx
public import Idealize.ShloMosaic.Lib.IdealHost
public import Idealize.ShloMosaic.PureOps.IdealRules

@[expose] public section

noncomputable section

namespace Cert.Spec

open Idealize.ShloMosaic Idealize.ShloMosaic.TcCoe Idealize.ShloMosaic.ValueIdx
open Idealize.SL Idealize.SL.Sem

/-- The scaled inner product of a query row and a key row. -/
def score (q k : Fin 256 → Fin 64 → EReal) (i j : Fin 256) : EReal :=
  (∑ d, q i d * k j d) * Ideal.ofBits .f32 0x3E000000#32

/-- A query row's largest score. -/
def peak (q k : Fin 256 → Fin 64 → EReal) (i : Fin 256) : EReal :=
  Finset.univ.fold max (Ideal.ofBits .f32 0xFF800000#32) (score q k i)

/-- The weight of a key before normalisation. -/
def wt (q k : Fin 256 → Fin 64 → EReal) (i j : Fin 256) : EReal := Ideal.exp (score q k i j - peak q k i)

/-- One head of softmax attention. -/
def headE (q k v : Fin 256 → Fin 64 → EReal) (i : Fin 256) (d : Fin 64) : EReal :=
  ∑ j, Ideal.div (wt q k i j) (∑ l, wt q k i l) * v j d

/-- A row with its pairs exchanged, the first of each pair negated: `(a, b)` becomes `(-b, a)`. -/
def turn (y : Fin 64 → EReal) (d : Fin 64) : EReal :=
  if h : d.val % 2 = 0 then -(y ⟨d.val + 1, by omega⟩) else y ⟨d.val - 1, by omega⟩

/-- The rotary rotation of a row by the cosines `C` and the sines `S`. -/
def rotE (C S y : Fin 64 → EReal) (d : Fin 64) : EReal := y d * C d + turn y d * S d

/-- Feature `d` of head `h` among the stacked features. -/
def col (h : Fin 64) (d : Fin 64) : Fin 4096 := ⟨64 * h.val + d.val, by omega⟩

/-- A batch's projection for head `h`. -/
def projE (x : Fin 256 → Fin 768 → EReal) (W : Fin 768 → Fin 4096 → EReal) (h : Fin 64) (s : Fin 256) (d : Fin 64) : EReal :=
  ∑ k, x s k * W k (col h d)

/-- A batch's context at stacked feature `k`: head `k / 64` of attention over the rotated projections, at dimension `k % 64`. -/
def ctxE (C S : Fin 256 → Fin 64 → EReal) (Wq Wk Wv : Fin 768 → Fin 4096 → EReal) (x : Fin 256 → Fin 768 → EReal)
    (s : Fin 256) (k : Fin 4096) : EReal :=
  headE (fun s => rotE (C s) (S s) (projE x Wq ⟨k.val / 64, by omega⟩ s)) (fun s => rotE (C s) (S s) (projE x Wk ⟨k.val / 64, by omega⟩ s))
    (projE x Wv ⟨k.val / 64, by omega⟩) s ⟨k.val % 64, by omega⟩

/-- The attention layer. -/
def layerE (C S : Fin 256 → Fin 64 → EReal) (Wq Wk Wv : Fin 768 → Fin 4096 → EReal) (Wo : Fin 4096 → Fin 768 → EReal)
    (x : Fin 256 → Fin 768 → EReal) (s : Fin 256) (n : Fin 768) : EReal :=
  ∑ k, ctxE C S Wq Wk Wv x s k * Wo k n

/-- Feature `l` of device `g` among the stacked features. -/
def feat (g : Fin 16) (l : Fin 256) : Fin 4096 := ⟨256 * g.val + l.val, by omega⟩

/-- A sum over the stacked features, device by device. -/
theorem sum_devices (f : Fin 4096 → EReal) : ∑ k, f k = ∑ w : Fin 16, ∑ l : Fin 256, f (feat w l) := by
  rw [← Fintype.sum_prod_type']
  refine (Fintype.sum_equiv (finProdFinEquiv (m := 16) (n := 256)) _ _ fun p => ?_).symm
  refine congrArg f (Fin.ext ?_)
  show 256 * p.1.val + p.2.val = p.2.val + 256 * p.1.val
  omega

end Cert.Spec

end
-- ==== Proof.Head.lean ====
/-
  One head of the kernel is one head of softmax attention.
-/
module

public import proofs.«01_k».proof.Proof.Dots
public import proofs.«01_k».proof.Proof.Spec
public import Idealize.ShloMosaic.Lib.Pipeline.Value

@[expose] public section

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

/-- A row statistic, spread over the row. -/
theorem spread_row (f : FVec Ideal S256 .f32) (i j : Fin 256) :
    broadcastTo S256x256 (shapeCast S256x1 f shapeCasts_S256_S256x1) broadcasts_S256x1_S256x256 (ix2 i j) = f (ix1 i) := by
  have e : broadcastTo S256x256 (shapeCast S256x1 f shapeCasts_S256_S256x1) broadcasts_S256x1_S256x256 (ix2 i j)
      = shapeCast S256x1 f shapeCasts_S256_S256x1 (ix2 i 0) :=
    broadcastTo_apply _ broadcasts_S256x1_S256x256 _ _ (fun a => match a with
      | ⟨0, _⟩ => rfl
      | ⟨1, _⟩ => rfl)
  rw [e]
  exact shapeCast_apply f shapeCasts_S256_S256x1 _ _ (by simp [Shape.rowMajor_val_one, Shape.rowMajor_val_two, ix1, ix2])

/-- A row's maximum. -/
theorem row_max (s : FVec Ideal S256x256 .f32) (i : Fin 256) :
    multiReduction .maximumf [1] S256 s 0xFF800000#32 reduces_S256x256_S256 (.inl rfl) rfl (ix1 i)
      = Finset.univ.fold max (Ideal.ofBits .f32 0xFF800000#32) (fun j : Fin 256 => s (ix2 i j)) := by
  refine (Ideal.multiReduction_maximumf_single s _ reduces_S256x256_S256 (.inl rfl) rfl (ix1 i)).trans ?_
  refine congrArg (Finset.univ.fold max _) (funext fun j => congrArg s (funext fun a => ?_))
  match a with
  | ⟨0, _⟩ => rfl
  | ⟨1, _⟩ => rfl

/-- A row's sum. -/
theorem row_sum (s : FVec Ideal S256x256 .f32) (i : Fin 256) :
    multiReduction .add [1] S256 s 0x00000000#32 reduces_S256x256_S256 (.inl rfl) rfl (ix1 i) = ∑ j : Fin 256, s (ix2 i j) := by
  refine (Ideal.multiReduction_add_single s _ reduces_S256x256_S256 (.inl rfl) rfl (ix1 i)).trans ?_
  refine Finset.sum_congr rfl fun j _ => congrArg s (funext fun a => ?_)
  match a with
  | ⟨0, _⟩ => rfl
  | ⟨1, _⟩ => rfl

/-- The kernel's head. -/
theorem head_value (q k v : FVec Ideal S256x64 .bf16) (i : Fin 256) (d : Fin 64) :
    headOut q k v (ix2 i d) = headE (fun i d => q (ix2 i d)) (fun i d => k (ix2 i d)) (fun i d => v (ix2 i d)) i d := by
  unfold headOut
  rw [shapeCast_apply _ shapeCasts_S256x64_S256x64 (ix2 i d) (ix2 i d) rfl, truncf_apply, mm_mix]
  have hs : ∀ i j : Fin 256, mulf (matmul dot_S256x64_S256x64_S256x256_1_1_0_0_n_n none q k (constant S256x256 .f32 0x00000000#32))
      (broadcast S256x256 (Scalar.ofBits .f32 0x3E000000#32)) (ix2 i j) = score (fun i d => q (ix2 i d)) (fun i d => k (ix2 i d)) i j := by
    intro i j
    rw [mulf_apply, mm_score]
    rfl
  generalize mulf (matmul dot_S256x64_S256x64_S256x256_1_1_0_0_n_n none q k (constant S256x256 .f32 0x00000000#32))
      (broadcast S256x256 (Scalar.ofBits .f32 0x3E000000#32)) = sc at hs ⊢
  have he : ∀ i j : Fin 256, exp (subf sc (broadcastTo S256x256 (shapeCast S256x1 (multiReduction .maximumf [1] S256 sc 0xFF800000#32 reduces_S256x256_S256 (.inl rfl) rfl) shapeCasts_S256_S256x1) broadcasts_S256x1_S256x256)) (ix2 i j)
      = wt (fun i d => q (ix2 i d)) (fun i d => k (ix2 i d)) i j := by
    intro i j
    show Ideal.exp (sc (ix2 i j) - broadcastTo S256x256 _ _ (ix2 i j)) = _
    rw [spread_row, row_max, hs]
    unfold wt peak
    congr 2
    refine congrArg (Finset.univ.fold max _) (funext fun j => hs i j)
  generalize exp (subf sc (broadcastTo S256x256 (shapeCast S256x1 (multiReduction .maximumf [1] S256 sc 0xFF800000#32 reduces_S256x256_S256 (.inl rfl) rfl) shapeCasts_S256_S256x1) broadcasts_S256x1_S256x256)) = e at he ⊢
  refine Finset.sum_congr rfl fun j _ => ?_
  rw [truncf_apply, divf_apply, spread_row, row_sum, he]
  congr 2
  exact Finset.sum_congr rfl fun l _ => he i l

end Cert.KernelIdeal.Hand

end
-- ==== Proof.Share.lean ====
/-
  What a received weight chunk contributes, and the sum of all contributions, entry by entry over the extended reals.
-/
module

public import proofs.«01_k».proof.Proof.Head
public import proofs.«01_k».proof.Proof.Whole

@[expose] public section

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

/-- Position `s` of batch `b` among a device's rows. -/
def rowOf (b : Fin 2) (s : Fin 256) : Fin 512 := ⟨256 * b.val + s.val, by omega⟩
/-- Dimension `d` of head `h` among a device's features. -/
def featOf (h : Fin 4) (d : Fin 64) : Fin 256 := ⟨64 * h.val + d.val, by omega⟩

/-- The exchanged row: the product with the pair exchange picks one entry. -/
theorem exch_sum (y : Fin 256 → EReal) (h : Fin 4) (d : Fin 64) :
    (∑ k : Fin 256, y k * (if (featOf h d).val % 2 = 0 then (if k.val = (featOf h d).val + 1 then (-1 : EReal) else 0)
      else (if (featOf h d).val = k.val + 1 then 1 else 0))) = turn (fun d => y (featOf h d)) d := by
  have ed : (featOf h d).val % 2 = d.val % 2 := by show (64 * h.val + d.val) % 2 = _; omega
  rw [ed]
  unfold turn
  by_cases e : d.val % 2 = 0
  · rw [dif_pos e]
    simp only [if_pos e]
    rw [Finset.sum_eq_single (featOf h ⟨d.val + 1, by omega⟩)]
    · rw [if_pos (by show 64 * h.val + (d.val + 1) = 64 * h.val + d.val + 1; omega), mul_neg, mul_one]
    · intro k _ hk
      rw [if_neg (fun hh => hk (Fin.ext (by show k.val = 64 * h.val + (d.val + 1); have : k.val = 64 * h.val + d.val + 1 := hh; omega))), mul_zero]
    · intro hh; exact absurd (Finset.mem_univ _) hh
  · rw [dif_neg e]
    simp only [if_neg e]
    rw [Finset.sum_eq_single (featOf h ⟨d.val - 1, by omega⟩)]
    · rw [if_pos (by show 64 * h.val + d.val = 64 * h.val + (d.val - 1) + 1; omega), mul_one]
    · intro k _ hk
      rw [if_neg (fun hh => hk (Fin.ext (by show k.val = 64 * h.val + (d.val - 1); have : 64 * h.val + d.val = k.val + 1 := hh; omega))), mul_zero]
    · intro hh; exact absurd (Finset.mem_univ _) hh

/-- Row `k` of block `o` of the stacked weights. -/
def atRow (o : Fin 4) (k : Fin 768) : Fin 3072 := ⟨768 * o.val + k.val, by omega⟩

section Contribution

variable (x : FVec Ideal S512x768 .bf16) (cs sn : FVec Ideal S512x256 .f32) (p : FVec Ideal S256x256 .bf16)
  (X : Fin 2 → Fin 256 → Fin 768 → EReal) (C S : Fin 256 → Fin 64 → EReal)
  (hx : ∀ b s k, x (ix2 (rowOf b s) k) = X b s k)
  (hC : ∀ b s h d, cs (ix2 (rowOf b s) (featOf h d)) = C s d)
  (hS : ∀ b s h d, sn (ix2 (rowOf b s) (featOf h d)) = S s d)
  (hp : ∀ r c : Fin 256, p (ix2 r c) = if c.val % 2 = 0 then (if r.val = c.val + 1 then (-1 : EReal) else 0) else (if c.val = r.val + 1 then 1 else 0))

include hC hS hp in
/-- The rotation of a projection. -/
theorem rot_value (y : FVec Ideal S512x256 .f32) (b : Fin 2) (s : Fin 256) (h : Fin 4) (d : Fin 64) :
    rot cs sn p y (ix2 (rowOf b s) (featOf h d)) = rotE (C s) (S s) (fun d => y (ix2 (rowOf b s) (featOf h d))) d := by
  unfold rot
  rw [truncf_apply, addf_apply, mulf_apply, mulf_apply, mm_pair, hC, hS]
  unfold rotE
  rw [← exch_sum (fun k => y (ix2 (rowOf b s) k)) h d]
  congr 2
  exact Finset.sum_congr rfl fun k _ => by rw [truncf_apply, hp]

variable (w : FVec Ideal S3072x256 .bf16) (g : Fin 16) (Wq Wk Wv : Fin 768 → Fin 4096 → EReal) (Wo : Fin 4096 → Fin 768 → EReal)
  (hq : ∀ (k : Fin 768) (l : Fin 256), w (ix2 (atRow 0 k) l) = Wq k (feat g l))
  (hk : ∀ (k : Fin 768) (l : Fin 256), w (ix2 (atRow 1 k) l) = Wk k (feat g l))
  (hv : ∀ (k : Fin 768) (l : Fin 256), w (ix2 (atRow 2 k) l) = Wv k (feat g l))
  (ho : ∀ (k : Fin 768) (l : Fin 256), w (ix2 (atRow 3 k) l) = Wo (feat g l) k)

/-- Head `h` of device `g` among all the heads. -/
def headOf (g : Fin 16) (h : Fin 4) : Fin 64 := ⟨4 * g.val + h.val, by omega⟩

include hx in
/-- A projection by a block of the weights. -/
theorem proj_value (n : Nat) (hs : S3072x256.Slices ![n, 0] S768x256) (o : Fin 4) (ho : 768 * o.val = n) (W : Fin 768 → Fin 4096 → EReal)
    (hW : ∀ (k : Fin 768) (l : Fin 256), w (ix2 (atRow o k) l) = W k (feat g l))
    (b : Fin 2) (s : Fin 256) (h : Fin 4) (d : Fin 64) :
    dotW x (extractStridedSlice S768x256 ![n, 0] w hs) (ix2 (rowOf b s) (featOf h d)) = projE (X b) W (headOf g h) s d := by
  unfold dotW projE
  rw [mm_proj]
  refine Finset.sum_congr rfl fun k _ => ?_
  rw [hx, extractStridedSlice_apply ![n, 0] w hs (ix2 k (featOf h d)) (ix2 (atRow o k) (featOf h d)) (fun a => match a with
    | ⟨0, _⟩ => congrArg (· + k.val) ho
    | ⟨1, _⟩ => (Nat.zero_add _).symm), hW]
  refine congrArg (fun z => _ * W k z) (Fin.ext ?_)
  show 256 * g.val + (64 * h.val + d.val) = 64 * (4 * g.val + h.val) + d.val
  omega

/-- A head of a projection. -/
theorem cut_value (y : FVec Ideal S512x256 .bf16) (b : Fin 2) (h : Fin 4) (s : Fin 256) (d : Fin 64) :
    extractStridedSlice S256x64 ![256 * b.val, 64 * h.val] y (slicesAt b h) (ix2 s d) = y (ix2 (rowOf b s) (featOf h d)) :=
  extractStridedSlice_apply _ y (slicesAt b h) (ix2 s d) (ix2 (rowOf b s) (featOf h d)) (fun a => match a with
    | ⟨0, _⟩ => rfl
    | ⟨1, _⟩ => rfl)

include hx hC hS hp hq hk hv in
/-- The context. -/
theorem ctx_value (b : Fin 2) (s : Fin 256) (h : Fin 4) (d : Fin 64) :
    ctxVal (qOf x cs sn p w) (kOf x cs sn p w) (vOf x w) (ix2 (rowOf b s) (featOf h d))
      = headE (fun s => rotE (C s) (S s) (projE (X b) Wq (headOf g h) s)) (fun s => rotE (C s) (S s) (projE (X b) Wk (headOf g h) s))
          (projE (X b) Wv (headOf g h)) s d := by
  rw [← ctxVal_at _ _ _ b h (ix2 s d) (ix2 (rowOf b s) (featOf h d)) rfl rfl]
  unfold headBH headAt qOf kOf vOf
  rw [head_value]
  congr 1
  · funext s d
    rw [cut_value, rot_value cs sn p C S hC hS hp]
    exact congrArg (fun z => rotE (C s) (S s) z d) (funext fun d => proj_value x X hx w g 0 _ 0 rfl Wq hq b s h d)
  · funext s d
    rw [cut_value, rot_value cs sn p C S hC hS hp]
    exact congrArg (fun z => rotE (C s) (S s) z d) (funext fun d => proj_value x X hx w g 768 _ 1 rfl Wk hk b s h d)
  · funext s d
    rw [cut_value, truncf_apply]
    exact proj_value x X hx w g 1536 _ 2 rfl Wv hv b s h d

include hx hC hS hp hq hk hv ho in
/-- The contribution of device `g`'s weights: its share of the sum over the stacked features. -/
theorem contrib_value (b : Fin 2) (s : Fin 256) (n : Fin 768) :
    contrib x cs sn p w (ix2 (rowOf b s) n)
      = ∑ l : Fin 256, ctxE C S Wq Wk Wv (X b) s (feat g l) * Wo (feat g l) n := by
  unfold contrib outDot
  rw [mm_outp]
  refine Finset.sum_congr rfl fun l _ => ?_
  have eo : woOf w (ix2 n l) = w (ix2 (atRow 3 n) l) :=
    extractStridedSlice_apply (s := S3072x256) (t := S768x256) ![2304, 0] w slices_S3072x256_o2304_0_S768x256 (ix2 n l) (ix2 (atRow 3 n) l) (fun a => match a with
      | ⟨0, _⟩ => rfl
      | ⟨1, _⟩ => (Nat.zero_add _).symm)
  rw [eo, ho]
  refine congrArg (· * _) ?_
  have el : l = featOf ⟨l.val / 64, by omega⟩ ⟨l.val % 64, by omega⟩ := Fin.ext (by show l.val = 64 * (l.val / 64) + l.val % 64; omega)
  have h := ctx_value x cs sn p X C S hx hC hS hp w g Wq Wk Wv hq hk hv b s ⟨l.val / 64, by omega⟩ ⟨l.val % 64, by omega⟩
  rw [← el] at h
  rw [h]
  have eh : headOf g ⟨l.val / 64, by omega⟩ = (⟨(256 * g.val + l.val) / 64, by omega⟩ : Fin 64) := Fin.ext (by show 4 * g.val + l.val / 64 = _; dsimp only; omega)
  have ed : (⟨l.val % 64, by omega⟩ : Fin 64) = ⟨(256 * g.val + l.val) % 64, by omega⟩ := Fin.ext (by dsimp only; omega)
  rw [eh, ed]
  rfl

end Contribution

/-- The order in which a device adds the contributions. -/
def order (c : Dev nD) : List (Fin 16) :=
  [c, nxt^[1] c, prv^[1] c, nxt^[2] c, prv^[2] c, nxt^[3] c, prv^[3] c, nxt^[4] c, prv^[4] c, nxt^[5] c, prv^[5] c, nxt^[6] c, prv^[6] c,
    prv^[7] c, nxt^[7] c, prv^[8] c]

theorem order_perm (c : Dev nD) : (order c).Perm (List.finRange 16) := by revert c; decide

/-- The result is the sum of every device's contribution. -/
theorem outOf_sum (W : Own Ideal) (x : FVec Ideal S512x768 .bf16) (cs sn : FVec Ideal S512x256 .f32) (p : FVec Ideal S256x256 .bf16)
    (c : Dev nD) (i : S512x768.Idx) : outOf W x cs sn p c i = ∑ g : Fin 16, contrib x cs sn p (W g) i := by
  have e : ∑ g : Fin 16, contrib x cs sn p (W g) i = ((List.finRange 16).map fun g => contrib x cs sn p (W g) i).sum := rfl
  have e' : ((order c).map fun g => contrib x cs sn p (W g) i).sum = ((List.finRange 16).map fun g => contrib x cs sn p (W g) i).sum :=
    ((order_perm c).map _).sum_eq
  rw [e, ← e']
  unfold order outOf accAt accAt accAt accAt accAt accAt accAt
  simp only [List.map_cons, List.map_nil, List.sum_cons, List.sum_nil, addf_apply, add_zero, add_assoc]

end Cert.KernelIdeal.Hand

end
-- ==== Proof.Entry.lean ====
/-
  The operands of the region, entry by entry over the extended reals.
-/
module

public import proofs.«01_k».proof.Proof.Host
public import proofs.«01_k».proof.Proof.Share

@[expose] public section

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

/-- A spread table. -/
theorem spread_value (t : FVec Ideal S256x64 .f32) (b : Fin 2) (s : Fin 256) (h : Fin 4) (d : Fin 64) :
    spread t (ix2 (rowOf b s) (featOf h d)) = t (ix2 s d) := by
  unfold spread
  rw [shapeCast_apply _ shapeCasts_S2x256x4x64_S512x256 (ix2 (rowOf b s) (featOf h d)) (ix4 b s h d) (by
      rw [Shape.rowMajor_val_four, Shape.rowMajor_val_two]
      show ((b.val * 256 + s.val) * 4 + h.val) * 64 + d.val = (256 * b.val + s.val) * 256 + (64 * h.val + d.val)
      omega),
    broadcastInDim_apply _ bcast_S1x256x1x64_S2x256x4x64_0_1_2_3 _ (ix4 b s h d) (ix4 (0 : Fin 1) s (0 : Fin 1) d) (fun a => match a with
      | ⟨0, _⟩ => rfl
      | ⟨1, _⟩ => rfl
      | ⟨2, _⟩ => rfl
      | ⟨3, _⟩ => rfl),
    shapeCast_apply _ shapeCasts_S256x64_S1x256x1x64 (ix4 (0 : Fin 1) s (0 : Fin 1) d) (ix2 s d) (by
      rw [Shape.rowMajor_val_four, Shape.rowMajor_val_two]
      show s.val * 64 + d.val = ((0 * 256 + s.val) * 1 + 0) * 64 + d.val
      omega)]

/-- The flattened activations. -/
theorem flat_value (x : FVec Ideal S2x256x768 .f32) (b : Fin 2) (s : Fin 256) (k : Fin 768) :
    shapeCast S512x768 x shapeCasts_S2x256x768_S512x768 (ix2 (rowOf b s) k) = x (ix3 b s k) :=
  shapeCast_apply _ shapeCasts_S2x256x768_S512x768 _ _ (by
    rw [Shape.rowMajor_val_three, Shape.rowMajor_val_two]
    show (b.val * 256 + s.val) * 768 + k.val = (256 * b.val + s.val) * 768 + k.val
    omega)

/-- The unflattened result. -/
theorem unflat_value (x : FVec Ideal S512x768 .f32) (b : Fin 2) (s : Fin 256) (k : Fin 768) :
    shapeCast S2x256x768 x shapeCasts_S512x768_S2x256x768 (ix3 b s k) = x (ix2 (rowOf b s) k) :=
  shapeCast_apply _ shapeCasts_S512x768_S2x256x768 _ _ (by
    rw [Shape.rowMajor_val_three, Shape.rowMajor_val_two]
    show (256 * b.val + s.val) * 768 + k.val = (b.val * 256 + s.val) * 768 + k.val
    omega)

section Stack

variable (a0 a1 a2 a3 : FVec Ideal S768x256 .f32)

/-- Four weight blocks, one above the other. -/
abbrev stacked : FVec Ideal S3072x256 .f32 :=
  concatenate S3072x256 0 [⟨S768x256, a0⟩, ⟨S768x256, a1⟩, ⟨S768x256, a2⟩, ⟨S768x256, a3⟩]
    concatenates_S768x256_S768x256_S768x256_S768x256_S3072x256_d0

theorem stacked_0 (k : Fin 768) (l : Fin 256) : stacked a0 a1 a2 a3 (ix2 (atRow 0 k) l) = a0 (ix2 k l) :=
  concatenate_apply_piece (t := S3072x256) 0 [⟨S768x256, a0⟩, ⟨S768x256, a1⟩, ⟨S768x256, a2⟩, ⟨S768x256, a3⟩]
    concatenates_S768x256_S768x256_S768x256_S768x256_S3072x256_d0 (ix2 (atRow 0 k) l) 0 (show 0 < 4 by decide) S768x256 a0 rfl rfl 0 rfl (ix2 k l)
    (fun b => match b with
      | ⟨0, _⟩ => fun hb => absurd rfl hb
      | ⟨1, _⟩ => fun _ => rfl) rfl

theorem stacked_1 (k : Fin 768) (l : Fin 256) : stacked a0 a1 a2 a3 (ix2 (atRow 1 k) l) = a1 (ix2 k l) :=
  concatenate_apply_piece (t := S3072x256) 0 [⟨S768x256, a0⟩, ⟨S768x256, a1⟩, ⟨S768x256, a2⟩, ⟨S768x256, a3⟩]
    concatenates_S768x256_S768x256_S768x256_S768x256_S3072x256_d0 (ix2 (atRow 1 k) l) 1 (show 1 < 4 by decide) S768x256 a1 rfl rfl 768 rfl (ix2 k l)
    (fun b => match b with
      | ⟨0, _⟩ => fun hb => absurd rfl hb
      | ⟨1, _⟩ => fun _ => rfl) rfl

theorem stacked_2 (k : Fin 768) (l : Fin 256) : stacked a0 a1 a2 a3 (ix2 (atRow 2 k) l) = a2 (ix2 k l) :=
  concatenate_apply_piece (t := S3072x256) 0 [⟨S768x256, a0⟩, ⟨S768x256, a1⟩, ⟨S768x256, a2⟩, ⟨S768x256, a3⟩]
    concatenates_S768x256_S768x256_S768x256_S768x256_S3072x256_d0 (ix2 (atRow 2 k) l) 2 (show 2 < 4 by decide) S768x256 a2 rfl rfl 1536 rfl (ix2 k l)
    (fun b => match b with
      | ⟨0, _⟩ => fun hb => absurd rfl hb
      | ⟨1, _⟩ => fun _ => rfl) rfl

theorem stacked_3 (k : Fin 768) (l : Fin 256) : stacked a0 a1 a2 a3 (ix2 (atRow 3 k) l) = a3 (ix2 k l) :=
  concatenate_apply_piece (t := S3072x256) 0 [⟨S768x256, a0⟩, ⟨S768x256, a1⟩, ⟨S768x256, a2⟩, ⟨S768x256, a3⟩]
    concatenates_S768x256_S768x256_S768x256_S768x256_S3072x256_d0 (ix2 (atRow 3 k) l) 3 (show 3 < 4 by decide) S768x256 a3 rfl rfl 2304 rfl (ix2 k l)
    (fun b => match b with
      | ⟨0, _⟩ => fun hb => absurd rfl hb
      | ⟨1, _⟩ => fun _ => rfl) rfl

end Stack

theorem turned (a : FVec Ideal S256x768 .f32) (k : Fin 768) (l : Fin 256) :
    (transpose S768x256 [1, 0] a transposes_S256x768_S768x256_1_0 : FVec Ideal S768x256 .f32) (ix2 k l) = a (ix2 l k) :=
  transpose_apply [1, 0] a transposes_S256x768_S768x256_1_0 (ix2 k l) (ix2 l k) (fun b => match b with
    | ⟨0, _⟩ => rfl
    | ⟨1, _⟩ => rfl)

variable (m : (ℓ : Loc nD τ sig) → Buf (Elt Ideal) ℓ)

/-- What a device ends with, when the devices' operands are blocks of the whole ones: the attention layer on its batches. -/
theorem final_value (C S : Fin 256 → Fin 64 → EReal)
    (hC : ∀ s d, Cert.ReferenceIdeal.Read.val_main_v21 (F := Ideal) (ix2 s d) = C s d)
    (hS : ∀ s d, Cert.ReferenceIdeal.Read.val_main_v24 (F := Ideal) (ix2 s d) = S s d)
    (Wq Wk Wv : Fin 768 → Fin 4096 → EReal) (Wo : Fin 4096 → Fin 768 → EReal)
    (c : Dev nD) (X : Fin 2 → Fin 256 → Fin 768 → EReal)
    (h0 : ∀ b s k, (m ((c : Thread nD τ).loc main_arg0) : FVec Ideal S2x256x768 .f32) (ix3 b s k) = X b s k)
    (h1 : ∀ (g : Dev nD) k l, (m ((g : Thread nD τ).loc main_arg1) : FVec Ideal S768x256 .f32) (ix2 k l) = Wq k (feat g l))
    (h2 : ∀ (g : Dev nD) k l, (m ((g : Thread nD τ).loc main_arg2) : FVec Ideal S768x256 .f32) (ix2 k l) = Wk k (feat g l))
    (h3 : ∀ (g : Dev nD) k l, (m ((g : Thread nD τ).loc main_arg3) : FVec Ideal S768x256 .f32) (ix2 k l) = Wv k (feat g l))
    (h4 : ∀ (g : Dev nD) l k, (m ((g : Thread nD τ).loc main_arg4) : FVec Ideal S256x768 .f32) (ix2 l k) = Wo (feat g l) k)
    (b : Fin 2) (s : Fin 256) (n : Fin 768) :
    (final m c : FVec Ideal S2x256x768 .f32) (ix3 b s n) = layerE C S Wq Wk Wv Wo (X b) s n := by
  unfold final
  rw [unflat_value]
  unfold res
  rw [outOf_sum]
  unfold layerE
  rw [sum_devices]
  refine Finset.sum_congr rfl fun g _ => ?_
  exact contrib_value (V m c main_v36) (V m c main_v28) (V m c main_v31) (V m c main_cst) X C S
    (fun b s k => by rw [entry_x, truncf_apply, flat_value, h0])
    (fun b s h d => by rw [entry_cos, spread_value, hC])
    (fun b s h d => by rw [entry_sin, spread_value, hS])
    (fun r q => by rw [entry_exch, exch_value])
    (own₀ m g) g Wq Wk Wv Wo
    (fun k l => by unfold own₀; rw [entry_w, truncf_apply]; exact (stacked_0 _ _ _ _ k l).trans (h1 g k l))
    (fun k l => by unfold own₀; rw [entry_w, truncf_apply]; exact (stacked_1 _ _ _ _ k l).trans (h2 g k l))
    (fun k l => by unfold own₀; rw [entry_w, truncf_apply]; exact (stacked_2 _ _ _ _ k l).trans (h3 g k l))
    (fun k l => by unfold own₀; rw [entry_w, truncf_apply]; exact (stacked_3 _ _ _ _ k l).trans ((turned _ k l).trans (h4 g l k)))
    b s n

end Cert.KernelIdeal.Hand

end
-- ==== Proof.Ref.lean ====
/-
  The reference's result, entry by entry over the extended reals: the attention layer.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Spec
public import Idealize.ShloMosaic.Lib.Pipeline.Value

@[expose] public section

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Gen Cert.ReferenceIdeal.Read Cert.Spec

/-- The cosines and the sines. -/
abbrev cosE (s : Fin 256) (d : Fin 64) : EReal := val_main_v21 (F := Ideal) (ix2 s d)
abbrev sinE (s : Fin 256) (d : Fin 64) : EReal := val_main_v24 (F := Ideal) (ix2 s d)

section

variable (x0 : (⟨S32x256x768, .f32⟩ : BufTy).Contents (Elt Ideal)) (x1 x2 x3 : (⟨S768x4096, .f32⟩ : BufTy).Contents (Elt Ideal))
  (x4 : (⟨S4096x768, .f32⟩ : BufTy).Contents (Elt Ideal))

/-- A batch's activations, and the weights, by coordinates. -/
abbrev xE (b : Fin 32) (s : Fin 256) (k : Fin 768) : EReal := x0 (ix3 b s k)
abbrev wE (k : Fin 768) (l : Fin 4096) : EReal := x1 (ix2 k l)
abbrev oE (l : Fin 4096) (n : Fin 768) : EReal := x4 (ix2 l n)

/-- A projection, by heads. -/
theorem proj_ref (b : Fin 32) (s : Fin 256) (h d : Fin 64) : val_main_v26 (F := Ideal) x0 x1 (ix4 b s h d) = projE (xE x0 b) (wE x1) h s d := by
  rw [val_main_v26_apply, val_main_v25_apply]
  refine Finset.sum_congr rfl fun k _ => ?_
  congr 1
  · refine congrArg x0 (funext fun a => Fin.ext ?_)
    match a with
    | ⟨0, _⟩ => show (((b.val * 256 + s.val) * 64 + h.val) * 64 + d.val) / 1048576 = b.val; omega
    | ⟨1, _⟩ => show (((b.val * 256 + s.val) * 64 + h.val) * 64 + d.val) / 4096 % 256 = s.val; omega
    | ⟨2, _⟩ => rfl
  · refine congrArg x1 (funext fun a => Fin.ext ?_)
    match a with
    | ⟨0, _⟩ => rfl
    | ⟨1, _⟩ => show (((b.val * 256 + s.val) * 64 + h.val) * 64 + d.val) % 4096 = 64 * h.val + d.val; omega

/-- The second of a pair, negated. -/
theorem odd_ref (b : Fin 32) (s : Fin 256) (h : Fin 64) (e : Fin 32) :
    val_main_v30 (F := Ideal) x0 x1 (ix4 b s h e) = -(val_main_v26 (F := Ideal) x0 x1 (ix4 b s h ⟨2 * e.val + 1, by omega⟩)) := by
  rw [val_main_v30_apply, val_main_v29_apply, val_main_v28_apply, val_main_v27_apply]
  show -(val_main_v26 (F := Ideal) x0 x1 _) = _
  refine congrArg (fun z => -(val_main_v26 (F := Ideal) x0 x1 z)) (funext fun a => Fin.ext ?_)
  match a with
  | ⟨0, _⟩ => simp [ix4]; omega
  | ⟨1, _⟩ => simp [ix4]; omega
  | ⟨2, _⟩ => simp [ix4]; omega
  | ⟨3, _⟩ => simp [ix4]; omega

/-- The first of a pair. -/
theorem even_ref (b : Fin 32) (s : Fin 256) (h : Fin 64) (e : Fin 32) :
    val_main_v32 (F := Ideal) x0 x1 (ix4 b s h e) = val_main_v26 (F := Ideal) x0 x1 (ix4 b s h ⟨2 * e.val, by omega⟩) := by
  rw [val_main_v32_apply, val_main_v31_apply, val_main_v27_apply]
  refine congrArg (val_main_v26 (F := Ideal) x0 x1) (funext fun a => Fin.ext ?_)
  match a with
  | ⟨0, _⟩ => simp [ix4]; omega
  | ⟨1, _⟩ => simp [ix4]; omega
  | ⟨2, _⟩ => simp [ix4]; omega
  | ⟨3, _⟩ => simp [ix4]; omega

/-- The exchanged pairs. -/
theorem turn_ref (b : Fin 32) (s : Fin 256) (h d : Fin 64) :
    val_main_v36 (F := Ideal) x0 x1 (ix4 b s h d) = turn (fun d => val_main_v26 (F := Ideal) x0 x1 (ix4 b s h d)) d := by
  have ei : idx_main_v36 (ix4 b s h d) = ix5 b s h (⟨d.val / 2, by omega⟩ : Fin 32) (⟨d.val % 2, by omega⟩ : Fin 2) := funext fun a => Fin.ext (by
    match a with
    | ⟨0, _⟩ => show (((b.val * 256 + s.val) * 64 + h.val) * 64 + d.val) / 1048576 = b.val; omega
    | ⟨1, _⟩ => show (((b.val * 256 + s.val) * 64 + h.val) * 64 + d.val) / 4096 % 256 = s.val; omega
    | ⟨2, _⟩ => show (((b.val * 256 + s.val) * 64 + h.val) * 64 + d.val) / 64 % 64 = h.val; omega
    | ⟨3, _⟩ => show (((b.val * 256 + s.val) * 64 + h.val) * 64 + d.val) / 2 % 32 = d.val / 2; omega
    | ⟨4, _⟩ => show (((b.val * 256 + s.val) * 64 + h.val) * 64 + d.val) % 2 = d.val % 2; omega)
  rw [val_main_v36_apply, ei]
  unfold turn val_main_v35
  by_cases e : d.val % 2 = 0
  · rw [dif_pos e, concatenate_pair_apply_left (t := S32x256x64x32x2) (s₁ := S32x256x64x32x1) (s₂ := S32x256x64x32x1) 4 (val_main_v33 (F := Ideal) x0 x1) (val_main_v34 (F := Ideal) x0 x1)
      concatenates_S32x256x64x32x1_S32x256x64x32x1_S32x256x64x32x2_d4 (ix5 b s h (⟨d.val / 2, by omega⟩ : Fin 32) (⟨d.val % 2, by omega⟩ : Fin 2)) rfl
      (ix5 b s h (⟨d.val / 2, by omega⟩ : Fin 32) (0 : Fin 1)) (fun a => match a with
        | ⟨0, _⟩ => rfl
        | ⟨1, _⟩ => rfl
        | ⟨2, _⟩ => rfl
        | ⟨3, _⟩ => rfl
        | ⟨4, _⟩ => e.symm), val_main_v33_apply]
    have e3 : idx_main_v33 (ix5 b s h (⟨d.val / 2, by omega⟩ : Fin 32) (0 : Fin 1)) = ix4 b s h (⟨d.val / 2, by omega⟩ : Fin 32) := funext fun a => match a with
        | ⟨0, _⟩ => rfl
        | ⟨1, _⟩ => rfl
        | ⟨2, _⟩ => rfl
        | ⟨3, _⟩ => rfl
    rw [e3, odd_ref]
    refine congrArg (fun z => -(val_main_v26 (F := Ideal) x0 x1 (ix4 b s h z))) (Fin.ext ?_)
    show 2 * (d.val / 2) + 1 = d.val + 1
    omega
  · rw [dif_neg e, concatenate_pair_apply_right (t := S32x256x64x32x2) (s₁ := S32x256x64x32x1) (s₂ := S32x256x64x32x1) 4 (val_main_v33 (F := Ideal) x0 x1) (val_main_v34 (F := Ideal) x0 x1)
      concatenates_S32x256x64x32x1_S32x256x64x32x1_S32x256x64x32x2_d4 (ix5 b s h (⟨d.val / 2, by omega⟩ : Fin 32) (⟨d.val % 2, by omega⟩ : Fin 2)) rfl rfl
      (ix5 b s h (⟨d.val / 2, by omega⟩ : Fin 32) (0 : Fin 1)) (fun a => match a with
        | ⟨0, _⟩ => fun _ => rfl
        | ⟨1, _⟩ => fun _ => rfl
        | ⟨2, _⟩ => fun _ => rfl
        | ⟨3, _⟩ => fun _ => rfl
        | ⟨4, _⟩ => fun hh => absurd rfl hh) (by show 0 + 1 = d.val % 2; omega), val_main_v34_apply]
    have e3 : idx_main_v34 (ix5 b s h (⟨d.val / 2, by omega⟩ : Fin 32) (0 : Fin 1)) = ix4 b s h (⟨d.val / 2, by omega⟩ : Fin 32) := funext fun a => match a with
        | ⟨0, _⟩ => rfl
        | ⟨1, _⟩ => rfl
        | ⟨2, _⟩ => rfl
        | ⟨3, _⟩ => rfl
    rw [e3, even_ref]
    refine congrArg (fun z => val_main_v26 (F := Ideal) x0 x1 (ix4 b s h z)) (Fin.ext ?_)
    show 2 * (d.val / 2) = d.val - 1
    omega

theorem cos_ref (b : Fin 32) (s : Fin 256) (h d : Fin 64) : val_main_v38 (F := Ideal) (ix4 b s h d) = cosE s d := by
  rw [val_main_v38_apply, val_main_v37_apply]
  refine congrArg (val_main_v21 (F := Ideal)) (funext fun a => ?_)
  match a with
  | ⟨0, _⟩ => rfl
  | ⟨1, _⟩ => rfl

theorem sin_ref (b : Fin 32) (s : Fin 256) (h d : Fin 64) : val_main_v41 (F := Ideal) (ix4 b s h d) = sinE s d := by
  rw [val_main_v41_apply, val_main_v40_apply]
  refine congrArg (val_main_v24 (F := Ideal)) (funext fun a => ?_)
  match a with
  | ⟨0, _⟩ => rfl
  | ⟨1, _⟩ => rfl

/-- The rotated projection. -/
theorem rot_ref (b : Fin 32) (s : Fin 256) (h d : Fin 64) :
    val_main_v43 (F := Ideal) x0 x1 (ix4 b s h d) = rotE (cosE s) (sinE s) (projE (xE x0 b) (wE x1) h s) d := by
  rw [val_main_v43_apply, val_main_v39_apply, val_main_v42_apply, turn_ref, cos_ref, sin_ref, proj_ref]
  have e : (fun d => val_main_v26 (F := Ideal) x0 x1 (ix4 b s h d)) = projE (xE x0 b) (wE x1) h s := funext fun d => proj_ref x0 x1 b s h d
  rw [e]
  rfl

/-- The keys are rotated as the queries are, and the values projected as they are. -/
theorem keys_ref : val_main_v62 (F := Ideal) x0 x2 = val_main_v43 (F := Ideal) x0 x2 := rfl
theorem values_ref : val_main_v64 (F := Ideal) x0 x3 = val_main_v26 (F := Ideal) x0 x3 := rfl

/-- The queries, keys and values of a head. -/
abbrev qE (b : Fin 32) (h : Fin 64) : Fin 256 → Fin 64 → EReal := fun s => rotE (cosE s) (sinE s) (projE (xE x0 b) (wE x1) h s)
abbrev vE (b : Fin 32) (h : Fin 64) : Fin 256 → Fin 64 → EReal := projE (xE x0 b) (wE x3) h

theorem score_ref (b : Fin 32) (h : Fin 64) (i j : Fin 256) :
    val_main_v67 (F := Ideal) x0 x1 x2 (ix4 b h i j) = score (qE x0 x1 b h) (qE x0 x2 b h) i j := by
  rw [val_main_v67_apply, val_main_v65_apply, val_main_v66_apply, keys_ref]
  show (∑ k : Fin 64, _) * Ideal.ofBits .f32 0x3E000000#32 = _
  unfold score
  congr 1
  refine Finset.sum_congr rfl fun k _ => ?_
  have el : lidx_main_v65 (ix4 b h i j) k = ix4 b i h k := funext fun a => match a with
    | ⟨0, _⟩ => rfl
    | ⟨1, _⟩ => rfl
    | ⟨2, _⟩ => rfl
    | ⟨3, _⟩ => rfl
  have er : ridx_main_v65 (ix4 b h i j) k = ix4 b j h k := funext fun a => match a with
    | ⟨0, _⟩ => rfl
    | ⟨1, _⟩ => rfl
    | ⟨2, _⟩ => rfl
    | ⟨3, _⟩ => rfl
  rw [el, er, rot_ref, rot_ref]

theorem peak_ref (b : Fin 32) (h : Fin 64) (i : Fin 256) :
    val_main_v68 (F := Ideal) x0 x1 x2 (ix3 b h i) = peak (qE x0 x1 b h) (qE x0 x2 b h) i := by
  unfold val_main_v68 peak
  have hr : S32x64x256x256.Reduces [3] S32x64x256 := by decide
  rw [Host.reduce_eq_fold_single _ _ _ reducesTo_S32x64x256x256_S32x64x256_d3 hr]
  refine congrArg (Finset.univ.fold max _) (funext fun j => ?_)
  refine Eq.trans ?_ (score_ref x0 x1 x2 b h i j)
  refine congrArg (val_main_v67 (F := Ideal) x0 x1 x2) (funext fun a => ?_)
  match a with
  | ⟨0, _⟩ => rfl
  | ⟨1, _⟩ => rfl
  | ⟨2, _⟩ => rfl
  | ⟨3, _⟩ => rfl

theorem wt_ref (b : Fin 32) (h : Fin 64) (i j : Fin 256) :
    val_main_v72 (F := Ideal) x0 x1 x2 (ix4 b h i j) = wt (qE x0 x1 b h) (qE x0 x2 b h) i j := by
  rw [val_main_v72_apply, val_main_v71_apply, val_main_v70_apply, val_main_v69_apply, score_ref]
  have e : idx_main_v69 (idx_main_v70 (ix4 b h i j)) = ix3 b h i := funext fun a => match a with
    | ⟨0, _⟩ => rfl
    | ⟨1, _⟩ => rfl
    | ⟨2, _⟩ => rfl
  rw [e, peak_ref]
  rfl

theorem total_ref (b : Fin 32) (h : Fin 64) (i : Fin 256) :
    val_main_v73 (F := Ideal) x0 x1 x2 (ix3 b h i) = ∑ l, wt (qE x0 x1 b h) (qE x0 x2 b h) i l := by
  rw [val_main_v73_apply]
  show Ideal.ofBits .f32 0x00000000#32 + _ = _
  rw [Ideal.ofBits_zero_f32, zero_add]
  refine Finset.sum_congr rfl fun l _ => ?_
  rw [← wt_ref]
  refine congrArg (val_main_v72 (F := Ideal) x0 x1 x2) (funext fun a => ?_)
  match a with
  | ⟨0, _⟩ => rfl
  | ⟨1, _⟩ => rfl
  | ⟨2, _⟩ => rfl
  | ⟨3, _⟩ => rfl

theorem soft_ref (b : Fin 32) (h : Fin 64) (i j : Fin 256) :
    val_main_v76 (F := Ideal) x0 x1 x2 (ix4 b h i j)
      = Ideal.div (wt (qE x0 x1 b h) (qE x0 x2 b h) i j) (∑ l, wt (qE x0 x1 b h) (qE x0 x2 b h) i l) := by
  rw [val_main_v76_apply, wt_ref, val_main_v75_apply, val_main_v74_apply]
  have e : idx_main_v74 (idx_main_v75 (ix4 b h i j)) = ix3 b h i := funext fun a => match a with
    | ⟨0, _⟩ => rfl
    | ⟨1, _⟩ => rfl
    | ⟨2, _⟩ => rfl
  rw [e, total_ref]
  rfl

theorem head_ref (b : Fin 32) (h d : Fin 64) (i : Fin 256) :
    val_main_v77 (F := Ideal) x0 x1 x2 x3 (ix4 b h d i) = headE (qE x0 x1 b h) (qE x0 x2 b h) (vE x0 x3 b h) i d := by
  rw [val_main_v77_apply, values_ref]
  refine Finset.sum_congr rfl fun j _ => ?_
  have el : lidx_main_v77 (ix4 b h d i) j = ix4 b j h d := funext fun a => match a with
    | ⟨0, _⟩ => rfl
    | ⟨1, _⟩ => rfl
    | ⟨2, _⟩ => rfl
    | ⟨3, _⟩ => rfl
  have er : ridx_main_v77 (ix4 b h d i) j = ix4 b h i j := funext fun a => match a with
    | ⟨0, _⟩ => rfl
    | ⟨1, _⟩ => rfl
    | ⟨2, _⟩ => rfl
    | ⟨3, _⟩ => rfl
  rw [el, er, proj_ref, soft_ref, mul_comm]

theorem ctx_ref (b : Fin 32) (s : Fin 256) (k : Fin 4096) :
    val_main_v79 (F := Ideal) x0 x1 x2 x3 (ix3 b s k) = ctxE cosE sinE (wE x1) (wE x2) (wE x3) (xE x0 b) s k := by
  rw [val_main_v79_apply, val_main_v78_apply]
  have e : idx_main_v78 (idx_main_v79 (ix3 b s k)) = ix4 b (⟨k.val / 64, by omega⟩ : Fin 64) (⟨k.val % 64, by omega⟩ : Fin 64) s := funext fun a => Fin.ext (by
    match a with
    | ⟨0, _⟩ => show ((b.val * 256 + s.val) * 4096 + k.val) / 1048576 = b.val; omega
    | ⟨1, _⟩ => show ((b.val * 256 + s.val) * 4096 + k.val) / 64 % 64 = k.val / 64; omega
    | ⟨2, _⟩ => show ((b.val * 256 + s.val) * 4096 + k.val) % 64 = k.val % 64; omega
    | ⟨3, _⟩ => show ((b.val * 256 + s.val) * 4096 + k.val) / 4096 % 256 = s.val; omega)
  rw [e, head_ref]
  rfl

/-- The reference's result is the attention layer. -/
theorem layer_ref (b : Fin 32) (s : Fin 256) (n : Fin 768) :
    val_main_v80 (F := Ideal) x0 x1 x2 x3 x4 (ix3 b s n) = layerE cosE sinE (wE x1) (wE x2) (wE x3) (oE x4) (xE x0 b) s n := by
  rw [val_main_v80_apply]
  refine Finset.sum_congr rfl fun k _ => ?_
  have el : lidx_main_v80 (ix3 b s n) k = ix3 b s k := funext fun a => match a with
    | ⟨0, _⟩ => rfl
    | ⟨1, _⟩ => rfl
    | ⟨2, _⟩ => rfl
  have er : ridx_main_v80 (ix3 b s n) k = ix2 k n := funext fun a => match a with
    | ⟨0, _⟩ => rfl
    | ⟨1, _⟩ => rfl
  rw [el, er, ctx_ref]

end

end Cert.ReferenceIdeal.Hand

end
-- ==== Proof.Value.lean ====
/-
  The value claim: the kernel on blocks of the operands ends with the blocks of the reference's result.
-/
module

public import proofs.«01_k».proof.Proof.Entry
public import proofs.«01_k».proof.Proof.Ref

@[expose] public section

noncomputable section

namespace Cert.Proof

open Idealize.ShloMosaic Idealize.ShloMosaic.TcCoe Idealize.ShloMosaic.ValueIdx
open Idealize.SL Idealize.SL.Sem

attribute [local instance] Cert.KernelIdeal.Gen.facts Cert.ReferenceIdeal.Gen.facts

/-- The kernel computes the reference's result, block by block, for every operand. -/
theorem value : Cert.algebraic_KernelIdeal_ReferenceIdeal := by
  intro m g m' g' _ hm
  refine ⟨Cert.ReferenceIdeal.Value.res_main_v80 m' 0, ?_, ?_⟩
  · refine (θ_run Cert.KernelIdeal.defs _ _).mono (fun r h c => ⟨(h.1 c).1.trans ?_, (h.1 c).2⟩) (Cert.KernelIdeal.Hand.run_main (F := Ideal) m g)
    rw [Cert.ReferenceIdeal.Read.val_main_v80_eq]
    funext i
    suffices key : ∀ (b : Fin 2) (s : Fin 256) (n : Fin 768), (Cert.KernelIdeal.Hand.final m c : FVec Ideal ⟨3, ![2, 256, 768]⟩ .f32) (ix3 b s n)
        = Layout.block ⟨3, ![2, 256, 768]⟩ ⟨3, ![32, 256, 768]⟩ 0 16 c (Cert.ReferenceIdeal.Read.val_main_v80 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4))) (by decide) (ix3 b s n) by
      rw [eq_ix3 i]
      exact key (i 0) (i 1) (i 2)
    intro b s n
    have hc : c.val < 16 := c.isLt
    refine (Cert.KernelIdeal.Hand.final_value m Cert.ReferenceIdeal.Hand.cosE Cert.ReferenceIdeal.Hand.sinE (fun _ _ => rfl) (fun _ _ => rfl)
      (Cert.ReferenceIdeal.Hand.wE (m' (((0 : Dev Cert.ReferenceIdeal.nD).tc : Thread Cert.ReferenceIdeal.nD Cert.ReferenceIdeal.τ).loc Cert.ReferenceIdeal.main_arg1)))
      (Cert.ReferenceIdeal.Hand.wE (m' (((0 : Dev Cert.ReferenceIdeal.nD).tc : Thread Cert.ReferenceIdeal.nD Cert.ReferenceIdeal.τ).loc Cert.ReferenceIdeal.main_arg2)))
      (Cert.ReferenceIdeal.Hand.wE (m' (((0 : Dev Cert.ReferenceIdeal.nD).tc : Thread Cert.ReferenceIdeal.nD Cert.ReferenceIdeal.τ).loc Cert.ReferenceIdeal.main_arg3)))
      (Cert.ReferenceIdeal.Hand.oE (m' (((0 : Dev Cert.ReferenceIdeal.nD).tc : Thread Cert.ReferenceIdeal.nD Cert.ReferenceIdeal.τ).loc Cert.ReferenceIdeal.main_arg4)))
      c (fun b => Cert.ReferenceIdeal.Hand.xE (m' (((0 : Dev Cert.ReferenceIdeal.nD).tc : Thread Cert.ReferenceIdeal.nD Cert.ReferenceIdeal.τ).loc Cert.ReferenceIdeal.main_arg0)) ⟨2 * c.val + b.val, by omega⟩)
      ?_ ?_ ?_ ?_ ?_ b s n).trans ?_
    · intro b s k
      rw [(hm c).1, Layout.block_apply]
      refine congrArg (m' _) (funext fun a => Fin.ext ?_)
      match a with
      | ⟨0, _⟩ => exact (Layout.Tiles.idx_val _ _ _ _).trans (by show c.val * 2 + b.val = 2 * c.val + b.val; omega)
      | ⟨1, _⟩ => exact Layout.Tiles.idx_val _ _ _ _
      | ⟨2, _⟩ => exact Layout.Tiles.idx_val _ _ _ _
    · intro g k l
      rw [(hm g).2.1, Layout.block_apply]
      refine congrArg (m' _) (funext fun a => Fin.ext ?_)
      match a with
      | ⟨0, _⟩ => exact Layout.Tiles.idx_val _ _ _ _
      | ⟨1, _⟩ => exact (Layout.Tiles.idx_val _ _ _ _).trans (by show g.val * 256 + l.val = 256 * g.val + l.val; omega)
    · intro g k l
      rw [(hm g).2.2.1, Layout.block_apply]
      refine congrArg (m' _) (funext fun a => Fin.ext ?_)
      match a with
      | ⟨0, _⟩ => exact Layout.Tiles.idx_val _ _ _ _
      | ⟨1, _⟩ => exact (Layout.Tiles.idx_val _ _ _ _).trans (by show g.val * 256 + l.val = 256 * g.val + l.val; omega)
    · intro g k l
      rw [(hm g).2.2.2.1, Layout.block_apply]
      refine congrArg (m' _) (funext fun a => Fin.ext ?_)
      match a with
      | ⟨0, _⟩ => exact Layout.Tiles.idx_val _ _ _ _
      | ⟨1, _⟩ => exact (Layout.Tiles.idx_val _ _ _ _).trans (by show g.val * 256 + l.val = 256 * g.val + l.val; omega)
    · intro g l k
      rw [(hm g).2.2.2.2, Layout.block_apply]
      refine congrArg (m' _) (funext fun a => Fin.ext ?_)
      match a with
      | ⟨0, _⟩ => exact (Layout.Tiles.idx_val _ _ _ _).trans (by show g.val * 256 + l.val = 256 * g.val + l.val; omega)
      | ⟨1, _⟩ => exact Layout.Tiles.idx_val _ _ _ _
    · rw [← Cert.ReferenceIdeal.Hand.layer_ref]
      refine Eq.trans ?_ (Layout.block_apply _ _ _ _).symm
      refine congrArg (Cert.ReferenceIdeal.Read.val_main_v80 _ _ _ _ _) (funext fun a => Fin.ext ?_)
      match a with
      | ⟨0, _⟩ => exact ((Layout.Tiles.idx_val _ _ _ _).trans (by show c.val * 2 + b.val = 2 * c.val + b.val; omega)).symm
      | ⟨1, _⟩ => exact ((Layout.Tiles.idx_val _ _ _ _).trans (by rfl)).symm
      | ⟨2, _⟩ => exact ((Layout.Tiles.idx_val _ _ _ _).trans (by rfl)).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_ref, trivial, value⟩

end Cert.Proof

end
